-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counted_events [hPre_counted_events : Cert.Pre_counted_events.Facts] (m : (ℓ : Loc Cert.KernelIdeal.nD Cert.KernelIdeal.τ Cert.KernelIdeal.sig) → Buf (Elt Ideal) ℓ) : Prop :=
  ∀ c : Dev Cert.KernelIdeal.nD,
    (Cert.Pre_counted_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counted_events [hPre_counted_events : Cert.Pre_counted_events.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counted_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_counted_events [hKernelIdeal : Cert.KernelIdeal.Facts] [hPre_counted_events : Cert.Pre_counted_events.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counted_events m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_counted_events [hReferenceIdeal : Cert.ReferenceIdeal.Facts] [hPre_counted_events : Cert.Pre_counted_events.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counted_events m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_counted_events [hKernelIdeal : Cert.KernelIdeal.Facts] [hReferenceIdeal : Cert.ReferenceIdeal.Facts] [hPre_counted_events : Cert.Pre_counted_events.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counted_events m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_counted_events : Cert.Pre_counted_events.Facts),
    quiescent_Kernel (hKernel := hKernel)
    ∧ quiescent_KernelIdeal (hKernelIdeal := hKernelIdeal)
    ∧ quiescent_KernelIdeal_pre_counted_events (hKernelIdeal := hKernelIdeal) (hPre_counted_events := hPre_counted_events)
    ∧ quiescent_ReferenceIdeal (hReferenceIdeal := hReferenceIdeal)
    ∧ quiescent_ReferenceIdeal_pre_counted_events (hReferenceIdeal := hReferenceIdeal) (hPre_counted_events := hPre_counted_events)
    ∧ preserves_Kernel_KernelIdeal
    ∧ algebraic_KernelIdeal_ReferenceIdeal_pre_counted_events (hKernelIdeal := hKernelIdeal) (hReferenceIdeal := hReferenceIdeal) (hPre_counted_events := hPre_counted_events)
-- ==== Pre_counted_events.lean ====
abbrev S1000000 : Shape := ⟨1, ![1000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : FVec F S1000000 .f32) (main_arg1 : FVec F S1000000 .f32) (main_arg2 : IVec S1000000 32) : IVec S_ 1 :=
  let main_c : IVec S_ 32 := constantI S_ 32 0#32
  let main_v0 : IVec S1000000 32 := broadcastInDim S1000000 ![] bcast_S_S1000000 main_c
  let main_v1 : IVec S1000000 1 := cmpi .sge main_arg2 main_v0
  let main_c_0 : IVec S_ 1 := constantI S_ 1 1#1
  let main_v2 : IVec S_ 1 := (fun x v => Host.reduce IntOp.andi x v reducesTo_S1000000_S_d0 h_S_) main_v1 main_c_0
  main_v2
-- ==== Kernel.lean ====
abbrev S1000000 : Shape := ⟨1, ![1000000]⟩
abbrev S_ : Shape := ⟨0, ![]⟩
abbrev S1048576 : Shape := ⟨1, ![1048576]⟩
abbrev S32x32768 : Shape := ⟨2, ![32, 32768]⟩
abbrev S32768 : Shape := ⟨1, ![32768]⟩
abbrev S4096 : Shape := ⟨1, ![4096]⟩
abbrev S16 : Shape := ⟨1, ![16]⟩
abbrev S1x32768 : Shape := ⟨2, ![1, 32768]⟩
abbrev S8192x128 : Shape := ⟨2, ![8192, 128]⟩
abbrev S256x128 : Shape := ⟨2, ![256, 128]⟩
abbrev S256x256 : Shape := ⟨2, ![256, 256]⟩
abbrev S128x128 : Shape := ⟨2, ![128, 128]⟩
abbrev S256 : Shape := ⟨1, ![256]⟩
abbrev S256x1 : Shape := ⟨2, ![256, 1]⟩
abbrev S1x1 : Shape := ⟨2, ![1, 1]⟩
abbrev S1024x128 : Shape := ⟨2, ![1024, 128]⟩
abbrev S1x1024x128 : Shape := ⟨3, ![1, 1024, 128]⟩
abbrev S1 : Shape := ⟨1, ![1]⟩
abbrev S1x1x1 : Shape := ⟨3, ![1, 1, 1]⟩

abbrev nBuf : Table → Nat
  | .hbm => 23
  | .local .tc .vmem => 8
  | .local .tc .smem => 3
  | .local .scVector .vmem => 6
  | _ => 0

abbrev bufTy : (tb : Table) → Fin (nBuf tb) → BufTy
  | .hbm, ⟨0, _⟩ => ⟨S1000000, .f32⟩
  | .hbm, ⟨1, _⟩ => ⟨S1000000, .f32⟩
  | .hbm, ⟨2, _⟩ => ⟨S1000000, .i32⟩
  | .hbm, ⟨3, _⟩ => ⟨S_, .f32⟩
  | .hbm, ⟨4, _⟩ => ⟨S_, .f32⟩
  | .hbm, ⟨5, _⟩ => ⟨S1048576, .f32⟩
  | .hbm, ⟨6, _⟩ => ⟨S_, .f32⟩
  | .hbm, ⟨7, _⟩ => ⟨S_, .f32⟩
  | .hbm, ⟨8, _⟩ => ⟨S1048576, .f32⟩
  | .hbm, ⟨9, _⟩ => ⟨S_, .i32⟩
  | .hbm, ⟨10, _⟩ => ⟨S_, .i32⟩
  | .hbm, ⟨11, _⟩ => ⟨S1048576, .i32⟩
  | .hbm, ⟨12, _⟩ => ⟨S1048576, .f32⟩
  | .hbm, ⟨13, _⟩ => ⟨S32x32768, .f32⟩
  | .hbm, ⟨14, _⟩ => ⟨S8192x128, .f32⟩
  | .hbm, ⟨15, _⟩ => ⟨S256x128, .f32⟩
  | .hbm, ⟨16, _⟩ => ⟨S32768, .f32⟩
  | .hbm, ⟨17, _⟩ => ⟨S1048576, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S1x1, .f32⟩
  | .hbm, ⟨22, _⟩ => ⟨S_, .f32⟩
  | .local .tc .vmem, ⟨0, _⟩ => ⟨S8192x128, .f32⟩
  | .local .tc .vmem, ⟨1, _⟩ => ⟨S256x128, .f32⟩
  | .local .tc .vmem, ⟨2, _⟩ => ⟨S1024x128, .f32⟩
  | .local .tc .vmem, ⟨3, _⟩ => ⟨S1024x128, .f32⟩
  | .local .tc .vmem, ⟨4, _⟩ => ⟨S1024x128, .f32⟩
  | .local .tc .vmem, ⟨5, _⟩ => ⟨S1024x128, .f32⟩
  | .local .tc .vmem, ⟨6, _⟩ => ⟨S1024x128, .f32⟩
  | .local .tc .vmem, ⟨7, _⟩ => ⟨S1024x128, .f32⟩
  | .local .tc .smem, ⟨0, _⟩ => ⟨S1x1, .f32⟩
  | .local .tc .smem, ⟨1, _⟩ => ⟨S1x1, .f32⟩
  | .local .tc .smem, ⟨2, _⟩ => ⟨S1x1, .f32⟩
  | .local .scVector .vmem, ⟨0, _⟩ => ⟨S32768, .f32⟩
  | .local .scVector .vmem, ⟨1, _⟩ => ⟨S4096, .f32⟩
  | .local .scVector .vmem, ⟨2, _⟩ => ⟨S4096, .f32⟩
  | .local .scVector .vmem, ⟨3, _⟩ => ⟨S32768, .f32⟩
  | .local .scVector .vmem, ⟨4, _⟩ => ⟨S4096, .f32⟩
  | .local .scVector .vmem, ⟨5, _⟩ => ⟨S4096, .f32⟩
  | _, _ => ⟨S1000000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 43 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTables nBuf rfl bufTy 4 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_cst_0 : Ref sig .tc := ⟨.hbm, 6, rfl⟩
abbrev main_call1_v0 : Ref sig .tc := ⟨.hbm, 7, rfl⟩
abbrev main_v1 : Ref sig .tc := ⟨.hbm, 8, rfl⟩
abbrev main_c : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v0_scv : Ref sig .scVector := ⟨.hbm, 5, rfl⟩
abbrev main_v1_scv : Ref sig .scVector := ⟨.hbm, 8, rfl⟩
abbrev main_v4_scv : Ref sig .scVector := ⟨.hbm, 13, rfl⟩
abbrev main_v7_scv : Ref sig .scVector := ⟨.hbm, 16, rfl⟩
abbrev main_v8_scv : Ref sig .scVector := ⟨.hbm, 17, rfl⟩
abbrev cc1_stg0_0 : Ref sig .tc := ⟨.vmem, 0, rfl⟩
abbrev cc1_stg1_0 : Ref sig .tc := ⟨.vmem, 1, rfl⟩
abbrev cc3_stg0_0 : Ref sig .tc := ⟨.vmem, 2, rfl⟩
abbrev cc3_stg0_1 : Ref sig .tc := ⟨.vmem, 3, rfl⟩
abbrev cc3_stg1_0 : Ref sig .tc := ⟨.vmem, 4, rfl⟩
abbrev cc3_stg1_1 : Ref sig .tc := ⟨.vmem, 5, rfl⟩
abbrev cc3_stg2_0 : Ref sig .tc := ⟨.vmem, 6, rfl⟩
abbrev cc3_stg2_1 : Ref sig .tc := ⟨.vmem, 7, rfl⟩
abbrev cc3_stg3_0 : Ref sig .tc := ⟨.smem, 0, rfl⟩
abbrev cc3_scratch0 : Ref sig .tc := ⟨.smem, 1, rfl⟩
abbrev cc3_scratch1 : Ref sig .tc := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc1_sem0_0 : DmaSem sig := 17
abbrev cc1_sem1_0 : DmaSem sig := 18
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2048_i32 : BitVec 32 := 2048#32
  let v3 : BitVec 32 := Scalar.addi c0_i32_0 c2048_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32 : BitVec 32 := 16#32
  let v21 : BitVec 32 := Scalar.muli arg8 c16_i32
  let v22 : Index := Scalar.indexCast v21
  ![v22.toNat]
def k0_off2 (i : grid0.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v4 : BitVec 32 := Scalar.addi v2 c0_i32_2
  ![v4.toNat]
@[reducible] def k0_t2_loop : Scf.Loop 32 :=
  let c0_i32_4 : BitVec 32 := 0#32
  let c256_i32 : BitVec 32 := 256#32
  let v5 : BitVec 32 := Scalar.addi c0_i32_4 c256_i32
  let c1_i32_5 : BitVec 32 := 1#32
  ⟨c0_i32_4, v5, c1_i32_5⟩
def k0_off3 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c16_i32 : BitVec 32 := 16#32
  let v20 : BitVec 32 := Scalar.muli arg8 c16_i32
  let v21 : Index := Scalar.indexCast v20
  ![v21.toNat]

def k0_chk1 (v32 : IVec S16 32) : Prop :=
  (∀ a x, ((![v32] : Fin 1 → IVec S16 32) a x).toNat < S32768.size a)
theorem k0_idx1_inb : ∀ (v32 : IVec S16 32) (k0_hw1 : k0_chk1 v32), ∀ a x, ((![v32] : Fin 1 → IVec S16 32) a x).toNat < S32768.size a := fun v32 k0_hw1 => k0_hw1
@[reducible] def k0_t3_loop : Scf.Loop 32 :=
  let c0_i32_8 : BitVec 32 := 0#32
  let c256_i32_9 : BitVec 32 := 256#32
  let v7 : BitVec 32 := Scalar.addi c0_i32_8 c256_i32_9
  let c1_i32_10 : BitVec 32 := 1#32
  ⟨c0_i32_8, v7, c1_i32_10⟩
def k0_off4 (k0_t3 : Fin k0_t3_loop.trips) : Fin 1 → Nat :=
  let c0_i32_8 : BitVec 32 := 0#32
  let c1_i32_10 : BitVec 32 := 1#32
  let arg8 : BitVec 32 := Scf.iv c0_i32_8 c1_i32_10 k0_t3
  let c16_i32 : BitVec 32 := 16#32
  let v20 : BitVec 32 := Scalar.muli arg8 c16_i32
  let v21 : Index := Scalar.indexCast v20
  ![v21.toNat]

def k0_chk2 (v32 : IVec S16 32) : Prop :=
  (∀ a x, ((![v32] : Fin 1 → IVec S16 32) a x).toNat < S32768.size a)
theorem k0_idx2_inb : ∀ (v32 : IVec S16 32) (k0_hw2 : k0_chk2 v32), ∀ a x, ((![v32] : Fin 1 → IVec S16 32) a x).toNat < S32768.size a := fun v32 k0_hw2 => k0_hw2
@[reducible] def k0_t4_loop : Scf.Loop 32 :=
  let c0_i32_13 : BitVec 32 := 0#32
  let c256_i32_14 : BitVec 32 := 256#32
  let v9 : BitVec 32 := Scalar.addi c0_i32_13 c256_i32_14
  let c1_i32_15 : BitVec 32 := 1#32
  ⟨c0_i32_13, v9, c1_i32_15⟩
def k0_off5 (k0_t4 : Fin k0_t4_loop.trips) : Fin 1 → Nat :=
  let c0_i32_13 : BitVec 32 := 0#32
  let c1_i32_15 : BitVec 32 := 1#32
  let arg8 : BitVec 32 := Scf.iv c0_i32_13 c1_i32_15 k0_t4
  let c16_i32 : BitVec 32 := 16#32
  let v20 : BitVec 32 := Scalar.muli arg8 c16_i32
  let v21 : Index := Scalar.indexCast v20
  ![v21.toNat]

def k0_chk3 (v32 : IVec S16 32) : Prop :=
  (∀ a x, ((![v32] : Fin 1 → IVec S16 32) a x).toNat < S32768.size a)
theorem k0_idx3_inb : ∀ (v32 : IVec S16 32) (k0_hw3 : k0_chk3 v32), ∀ a x, ((![v32] : Fin 1 → IVec S16 32) a x).toNat < S32768.size a := fun v32 k0_hw3 => k0_hw3
@[reducible] def k0_t5_loop : Scf.Loop 32 :=
  let c0_i32_18 : BitVec 32 := 0#32
  let c256_i32_19 : BitVec 32 := 256#32
  let v11 : BitVec 32 := Scalar.addi c0_i32_18 c256_i32_19
  let c1_i32_20 : BitVec 32 := 1#32
  ⟨c0_i32_18, v11, c1_i32_20⟩
def k0_off6 (k0_t5 : Fin k0_t5_loop.trips) : Fin 1 → Nat :=
  let c0_i32_18 : BitVec 32 := 0#32
  let c1_i32_20 : BitVec 32 := 1#32
  let arg8 : BitVec 32 := Scf.iv c0_i32_18 c1_i32_20 k0_t5
  let c16_i32 : BitVec 32 := 16#32
  let v20 : BitVec 32 := Scalar.muli arg8 c16_i32
  let v21 : Index := Scalar.indexCast v20
  ![v21.toNat]

def k0_chk4 (v32 : IVec S16 32) : Prop :=
  (∀ a x, ((![v32] : Fin 1 → IVec S16 32) a x).toNat < S32768.size a)
theorem k0_idx4_inb : ∀ (v32 : IVec S16 32) (k0_hw4 : k0_chk4 v32), ∀ a x, ((![v32] : Fin 1 → IVec S16 32) a x).toNat < S32768.size a := fun v32 k0_hw4 => k0_hw4
@[reducible] def k0_t6_loop : Scf.Loop 32 :=
  let c0_i32_23 : BitVec 32 := 0#32
  let c256_i32_24 : BitVec 32 := 256#32
  let v13 : BitVec 32 := Scalar.addi c0_i32_23 c256_i32_24
  let c1_i32_25 : BitVec 32 := 1#32
  ⟨c0_i32_23, v13, c1_i32_25⟩
def k0_off7 (k0_t6 : Fin k0_t6_loop.trips) : Fin 1 → Nat :=
  let c0_i32_23 : BitVec 32 := 0#32
  let c1_i32_25 : BitVec 32 := 1#32
  let arg8 : BitVec 32 := Scf.iv c0_i32_23 c1_i32_25 k0_t6
  let c16_i32 : BitVec 32 := 16#32
  let v20 : BitVec 32 := Scalar.muli arg8 c16_i32
  let v21 : Index := Scalar.indexCast v20
  ![v21.toNat]

def k0_chk5 (v32 : IVec S16 32) : Prop :=
  (∀ a x, ((![v32] : Fin 1 → IVec S16 32) a x).toNat < S32768.size a)
theorem k0_idx5_inb : ∀ (v32 : IVec S16 32) (k0_hw5 : k0_chk5 v32), ∀ a x, ((![v32] : Fin 1 → IVec S16 32) a x).toNat < S32768.size a := fun v32 k0_hw5 => k0_hw5
@[reducible] def k0_t7_loop : Scf.Loop 32 :=
  let c0_i32_28 : BitVec 32 := 0#32
  let c256_i32_29 : BitVec 32 := 256#32
  let v15 : BitVec 32 := Scalar.addi c0_i32_28 c256_i32_29
  let c1_i32_30 : BitVec 32 := 1#32
  ⟨c0_i32_28, v15, c1_i32_30⟩
def k0_off8 (k0_t7 : Fin k0_t7_loop.trips) : Fin 1 → Nat :=
  let c0_i32_28 : BitVec 32 := 0#32
  let c1_i32_30 : BitVec 32 := 1#32
  let arg8 : BitVec 32 := Scf.iv c0_i32_28 c1_i32_30 k0_t7
  let c16_i32 : BitVec 32 := 16#32
  let v20 : BitVec 32 := Scalar.muli arg8 c16_i32
  let v21 : Index := Scalar.indexCast v20
  ![v21.toNat]

def k0_chk6 (v32 : IVec S16 32) : Prop :=
  (∀ a x, ((![v32] : Fin 1 → IVec S16 32) a x).toNat < S32768.size a)
theorem k0_idx6_inb : ∀ (v32 : IVec S16 32) (k0_hw6 : k0_chk6 v32), ∀ a x, ((![v32] : Fin 1 → IVec S16 32) a x).toNat < S32768.size a := fun v32 k0_hw6 => k0_hw6
@[reducible] def k0_t8_loop : Scf.Loop 32 :=
  let c0_i32_33 : BitVec 32 := 0#32
  let c256_i32_34 : BitVec 32 := 256#32
  let v17 : BitVec 32 := Scalar.addi c0_i32_33 c256_i32_34
  let c1_i32_35 : BitVec 32 := 1#32
  ⟨c0_i32_33, v17, c1_i32_35⟩
def k0_off9 (k0_t8 : Fin k0_t8_loop.trips) : Fin 1 → Nat :=
  let c0_i32_33 : BitVec 32 := 0#32
  let c1_i32_35 : BitVec 32 := 1#32
  let arg8 : BitVec 32 := Scf.iv c0_i32_33 c1_i32_35 k0_t8
  let c16_i32 : BitVec 32 := 16#32
  let v20 : BitVec 32 := Scalar.muli arg8 c16_i32
  let v21 : Index := Scalar.indexCast v20
  ![v21.toNat]

def k0_chk7 (v32 : IVec S16 32) : Prop :=
  (∀ a x, ((![v32] : Fin 1 → IVec S16 32) a x).toNat < S32768.size a)
theorem k0_idx7_inb : ∀ (v32 : IVec S16 32) (k0_hw7 : k0_chk7 v32), ∀ a x, ((![v32] : Fin 1 → IVec S16 32) a x).toNat < S32768.size a := fun v32 k0_hw7 => k0_hw7
@[reducible] def k0_t9_loop : Scf.Loop 32 :=
  let c0_i32_38 : BitVec 32 := 0#32
  let c256_i32_39 : BitVec 32 := 256#32
  let v19 : BitVec 32 := Scalar.addi c0_i32_38 c256_i32_39
  let c1_i32_40 : BitVec 32 := 1#32
  ⟨c0_i32_38, v19, c1_i32_40⟩
def k0_off10 (k0_t9 : Fin k0_t9_loop.trips) : Fin 1 → Nat :=
  let c0_i32_38 : BitVec 32 := 0#32
  let c1_i32_40 : BitVec 32 := 1#32
  let arg8 : BitVec 32 := Scf.iv c0_i32_38 c1_i32_40 k0_t9
  let c16_i32 : BitVec 32 := 16#32
  let v20 : BitVec 32 := Scalar.muli arg8 c16_i32
  let v21 : Index := Scalar.indexCast v20
  ![v21.toNat]

def k0_chk8 (v32 : IVec S16 32) : Prop :=
  (∀ a x, ((![v32] : Fin 1 → IVec S16 32) a x).toNat < S32768.size a)
theorem k0_idx8_inb : ∀ (v32 : IVec S16 32) (k0_hw8 : k0_chk8 v32), ∀ a x, ((![v32] : Fin 1 → IVec S16 32) a x).toNat < S32768.size a := fun v32 k0_hw8 => k0_hw8
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42_r16 : BitVec 32 := 0#32
  ![v1.toNat, 0]
abbrev grid1 : Pipeline.Grid := .none

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v3 : BitVec 32 := Scalar.addi v2 c0_i32
  ![v3.toNat]
@[reducible] def k2_t1_loop : Scf.Loop 32 :=
  let c0_i32_1 : BitVec 32 := 0#32
  let c256_i32 : BitVec 32 := 256#32
  let v4 : BitVec 32 := Scalar.addi c0_i32_1 c256_i32
  let c1_i32 : BitVec 32 := 1#32
  ⟨c0_i32_1, v4, c1_i32⟩
def k2_off2 (k2_t1 : Fin k2_t1_loop.trips) : Fin 1 → Nat :=
  let c0_i32_1 : BitVec 32 := 0#32
  let c1_i32 : BitVec 32 := 1#32
  let arg8 : BitVec 32 := Scf.iv c0_i32_1 c1_i32 k2_t1
  let c16_i32 : BitVec 32 := 16#32
  let v19 : BitVec 32 := Scalar.muli arg8 c16_i32
  let v20 : Index := Scalar.indexCast v19
  ![v20.toNat]

def k2_chk1 (v28 : IVec S16 32) : Prop :=
  (∀ a x, ((![v28] : Fin 1 → IVec S16 32) a x).toNat < S32768.size a)
theorem k2_idx1_inb : ∀ (v28 : IVec S16 32) (k2_hw1 : k2_chk1 v28), ∀ a x, ((![v28] : Fin 1 → IVec S16 32) a x).toNat < S32768.size a := fun v28 k2_hw1 => k2_hw1
def k2_off3 (k2_t1 : Fin k2_t1_loop.trips) : Fin 1 → Nat :=
  let c0_i32_1 : BitVec 32 := 0#32
  let c1_i32 : BitVec 32 := 1#32
  let arg8 : BitVec 32 := Scf.iv c0_i32_1 c1_i32 k2_t1
  let c16_i32 : BitVec 32 := 16#32
  let v19 : BitVec 32 := Scalar.muli arg8 c16_i32
  let v30 : Index := Scalar.indexCast v19
  ![v30.toNat]
@[reducible] def k2_t2_loop : Scf.Loop 32 :=
  let c0_i32_4 : BitVec 32 := 0#32
  let c256_i32_5 : BitVec 32 := 256#32
  let v6 : BitVec 32 := Scalar.addi c0_i32_4 c256_i32_5
  let c1_i32_6 : BitVec 32 := 1#32
  ⟨c0_i32_4, v6, c1_i32_6⟩
def k2_off4 (k2_t2 : Fin k2_t2_loop.trips) : Fin 1 → Nat :=
  let c0_i32_4 : BitVec 32 := 0#32
  let c1_i32_6 : BitVec 32 := 1#32
  let arg8 : BitVec 32 := Scf.iv c0_i32_4 c1_i32_6 k2_t2
  let c16_i32 : BitVec 32 := 16#32
  let v19 : BitVec 32 := Scalar.muli arg8 c16_i32
  let v20 : Index := Scalar.indexCast v19
  ![v20.toNat]

def k2_chk2 (v28 : IVec S16 32) : Prop :=
  (∀ a x, ((![v28] : Fin 1 → IVec S16 32) a x).toNat < S32768.size a)
theorem k2_idx2_inb : ∀ (v28 : IVec S16 32) (k2_hw2 : k2_chk2 v28), ∀ a x, ((![v28] : Fin 1 → IVec S16 32) a x).toNat < S32768.size a := fun v28 k2_hw2 => k2_hw2
def k2_off5 (k2_t2 : Fin k2_t2_loop.trips) : Fin 1 → Nat :=
  let c0_i32_4 : BitVec 32 := 0#32
  let c1_i32_6 : BitVec 32 := 1#32
  let arg8 : BitVec 32 := Scf.iv c0_i32_4 c1_i32_6 k2_t2
  let c16_i32 : BitVec 32 := 16#32
  let v19 : BitVec 32 := Scalar.muli arg8 c16_i32
  let v30 : Index := Scalar.indexCast v19
  ![v30.toNat]
@[reducible] def k2_t3_loop : Scf.Loop 32 :=
  let c0_i32_9 : BitVec 32 := 0#32
  let c256_i32_10 : BitVec 32 := 256#32
  let v8 : BitVec 32 := Scalar.addi c0_i32_9 c256_i32_10
  let c1_i32_11 : BitVec 32 := 1#32
  ⟨c0_i32_9, v8, c1_i32_11⟩
def k2_off6 (k2_t3 : Fin k2_t3_loop.trips) : Fin 1 → Nat :=
  let c0_i32_9 : BitVec 32 := 0#32
  let c1_i32_11 : BitVec 32 := 1#32
  let arg8 : BitVec 32 := Scf.iv c0_i32_9 c1_i32_11 k2_t3
  let c16_i32 : BitVec 32 := 16#32
  let v19 : BitVec 32 := Scalar.muli arg8 c16_i32
  let v20 : Index := Scalar.indexCast v19
  ![v20.toNat]

def k2_chk3 (v28 : IVec S16 32) : Prop :=
  (∀ a x, ((![v28] : Fin 1 → IVec S16 32) a x).toNat < S32768.size a)
theorem k2_idx3_inb : ∀ (v28 : IVec S16 32) (k2_hw3 : k2_chk3 v28), ∀ a x, ((![v28] : Fin 1 → IVec S16 32) a x).toNat < S32768.size a := fun v28 k2_hw3 => k2_hw3
def k2_off7 (k2_t3 : Fin k2_t3_loop.trips) : Fin 1 → Nat :=
  let c0_i32_9 : BitVec 32 := 0#32
  let c1_i32_11 : BitVec 32 := 1#32
  let arg8 : BitVec 32 := Scf.iv c0_i32_9 c1_i32_11 k2_t3
  let c16_i32 : BitVec 32 := 16#32
  let v19 : BitVec 32 := Scalar.muli arg8 c16_i32
  let v30 : Index := Scalar.indexCast v19
  ![v30.toNat]
@[reducible] def k2_t4_loop : Scf.Loop 32 :=
  let c0_i32_14 : BitVec 32 := 0#32
  let c256_i32_15 : BitVec 32 := 256#32
  let v10 : BitVec 32 := Scalar.addi c0_i32_14 c256_i32_15
  let c1_i32_16 : BitVec 32 := 1#32
  ⟨c0_i32_14, v10, c1_i32_16⟩
def k2_off8 (k2_t4 : Fin k2_t4_loop.trips) : Fin 1 → Nat :=
  let c0_i32_14 : BitVec 32 := 0#32
  let c1_i32_16 : BitVec 32 := 1#32
  let arg8 : BitVec 32 := Scf.iv c0_i32_14 c1_i32_16 k2_t4
  let c16_i32 : BitVec 32 := 16#32
  let v19 : BitVec 32 := Scalar.muli arg8 c16_i32
  let v20 : Index := Scalar.indexCast v19
  ![v20.toNat]

def k2_chk4 (v28 : IVec S16 32) : Prop :=
  (∀ a x, ((![v28] : Fin 1 → IVec S16 32) a x).toNat < S32768.size a)
theorem k2_idx4_inb : ∀ (v28 : IVec S16 32) (k2_hw4 : k2_chk4 v28), ∀ a x, ((![v28] : Fin 1 → IVec S16 32) a x).toNat < S32768.size a := fun v28 k2_hw4 => k2_hw4
def k2_off9 (k2_t4 : Fin k2_t4_loop.trips) : Fin 1 → Nat :=
  let c0_i32_14 : BitVec 32 := 0#32
  let c1_i32_16 : BitVec 32 := 1#32
  let arg8 : BitVec 32 := Scf.iv c0_i32_14 c1_i32_16 k2_t4
  let c16_i32 : BitVec 32 := 16#32
  let v19 : BitVec 32 := Scalar.muli arg8 c16_i32
  let v30 : Index := Scalar.indexCast v19
  ![v30.toNat]
@[reducible] def k2_t5_loop : Scf.Loop 32 :=
  let c0_i32_19 : BitVec 32 := 0#32
  let c256_i32_20 : BitVec 32 := 256#32
  let v12 : BitVec 32 := Scalar.addi c0_i32_19 c256_i32_20
  let c1_i32_21 : BitVec 32 := 1#32
  ⟨c0_i32_19, v12, c1_i32_21⟩
def k2_off10 (k2_t5 : Fin k2_t5_loop.trips) : Fin 1 → Nat :=
  let c0_i32_19 : BitVec 32 := 0#32
  let c1_i32_21 : BitVec 32 := 1#32
  let arg8 : BitVec 32 := Scf.iv c0_i32_19 c1_i32_21 k2_t5
  let c16_i32 : BitVec 32 := 16#32
  let v19 : BitVec 32 := Scalar.muli arg8 c16_i32
  let v20 : Index := Scalar.indexCast v19
  ![v20.toNat]

def k2_chk5 (v28 : IVec S16 32) : Prop :=
  (∀ a x, ((![v28] : Fin 1 → IVec S16 32) a x).toNat < S32768.size a)
theorem k2_idx5_inb : ∀ (v28 : IVec S16 32) (k2_hw5 : k2_chk5 v28), ∀ a x, ((![v28] : Fin 1 → IVec S16 32) a x).toNat < S32768.size a := fun v28 k2_hw5 => k2_hw5
def k2_off11 (k2_t5 : Fin k2_t5_loop.trips) : Fin 1 → Nat :=
  let c0_i32_19 : BitVec 32 := 0#32
  let c1_i32_21 : BitVec 32 := 1#32
  let arg8 : BitVec 32 := Scf.iv c0_i32_19 c1_i32_21 k2_t5
  let c16_i32 : BitVec 32 := 16#32
  let v19 : BitVec 32 := Scalar.muli arg8 c16_i32
  let v30 : Index := Scalar.indexCast v19
  ![v30.toNat]
@[reducible] def k2_t6_loop : Scf.Loop 32 :=
  let c0_i32_24 : BitVec 32 := 0#32
  let c256_i32_25 : BitVec 32 := 256#32
  let v14 : BitVec 32 := Scalar.addi c0_i32_24 c256_i32_25
  let c1_i32_26 : BitVec 32 := 1#32
  ⟨c0_i32_24, v14, c1_i32_26⟩
def k2_off12 (k2_t6 : Fin k2_t6_loop.trips) : Fin 1 → Nat :=
  let c0_i32_24 : BitVec 32 := 0#32
  let c1_i32_26 : BitVec 32 := 1#32
  let arg8 : BitVec 32 := Scf.iv c0_i32_24 c1_i32_26 k2_t6
  let c16_i32 : BitVec 32 := 16#32
  let v19 : BitVec 32 := Scalar.muli arg8 c16_i32
  let v20 : Index := Scalar.indexCast v19
  ![v20.toNat]

def k2_chk6 (v28 : IVec S16 32) : Prop :=
  (∀ a x, ((![v28] : Fin 1 → IVec S16 32) a x).toNat < S32768.size a)
theorem k2_idx6_inb : ∀ (v28 : IVec S16 32) (k2_hw6 : k2_chk6 v28), ∀ a x, ((![v28] : Fin 1 → IVec S16 32) a x).toNat < S32768.size a := fun v28 k2_hw6 => k2_hw6
def k2_off13 (k2_t6 : Fin k2_t6_loop.trips) : Fin 1 → Nat :=
  let c0_i32_24 : BitVec 32 := 0#32
  let c1_i32_26 : BitVec 32 := 1#32
  let arg8 : BitVec 32 := Scf.iv c0_i32_24 c1_i32_26 k2_t6
  let c16_i32 : BitVec 32 := 16#32
  let v19 : BitVec 32 := Scalar.muli arg8 c16_i32
  let v30 : Index := Scalar.indexCast v19
  ![v30.toNat]
@[reducible] def k2_t7_loop : Scf.Loop 32 :=
  let c0_i32_29 : BitVec 32 := 0#32
  let c256_i32_30 : BitVec 32 := 256#32
  let v16 : BitVec 32 := Scalar.addi c0_i32_29 c256_i32_30
  let c1_i32_31 : BitVec 32 := 1#32
  ⟨c0_i32_29, v16, c1_i32_31⟩
def k2_off14 (k2_t7 : Fin k2_t7_loop.trips) : Fin 1 → Nat :=
  let c0_i32_29 : BitVec 32 := 0#32
  let c1_i32_31 : BitVec 32 := 1#32
  let arg8 : BitVec 32 := Scf.iv c0_i32_29 c1_i32_31 k2_t7
  let c16_i32 : BitVec 32 := 16#32
  let v19 : BitVec 32 := Scalar.muli arg8 c16_i32
  let v20 : Index := Scalar.indexCast v19
  ![v20.toNat]

def k2_chk7 (v28 : IVec S16 32) : Prop :=
  (∀ a x, ((![v28] : Fin 1 → IVec S16 32) a x).toNat < S32768.size a)
theorem k2_idx7_inb : ∀ (v28 : IVec S16 32) (k2_hw7 : k2_chk7 v28), ∀ a x, ((![v28] : Fin 1 → IVec S16 32) a x).toNat < S32768.size a := fun v28 k2_hw7 => k2_hw7
def k2_off15 (k2_t7 : Fin k2_t7_loop.trips) : Fin 1 → Nat :=
  let c0_i32_29 : BitVec 32 := 0#32
  let c1_i32_31 : BitVec 32 := 1#32
  let arg8 : BitVec 32 := Scf.iv c0_i32_29 c1_i32_31 k2_t7
  let c16_i32 : BitVec 32 := 16#32
  let v19 : BitVec 32 := Scalar.muli arg8 c16_i32
  let v30 : Index := Scalar.indexCast v19
  ![v30.toNat]
@[reducible] def k2_t8_loop : Scf.Loop 32 :=
  let c0_i32_34 : BitVec 32 := 0#32
  let c256_i32_35 : BitVec 32 := 256#32
  let v18 : BitVec 32 := Scalar.addi c0_i32_34 c256_i32_35
  let c1_i32_36 : BitVec 32 := 1#32
  ⟨c0_i32_34, v18, c1_i32_36⟩
def k2_off16 (k2_t8 : Fin k2_t8_loop.trips) : Fin 1 → Nat :=
  let c0_i32_34 : BitVec 32 := 0#32
  let c1_i32_36 : BitVec 32 := 1#32
  let arg8 : BitVec 32 := Scf.iv c0_i32_34 c1_i32_36 k2_t8
  let c16_i32 : BitVec 32 := 16#32
  let v19 : BitVec 32 := Scalar.muli arg8 c16_i32
  let v20 : Index := Scalar.indexCast v19
  ![v20.toNat]

def k2_chk8 (v28 : IVec S16 32) : Prop :=
  (∀ a x, ((![v28] : Fin 1 → IVec S16 32) a x).toNat < S32768.size a)
theorem k2_idx8_inb : ∀ (v28 : IVec S16 32) (k2_hw8 : k2_chk8 v28), ∀ a x, ((![v28] : Fin 1 → IVec S16 32) a x).toNat < S32768.size a := fun v28 k2_hw8 => k2_hw8
def k2_off17 (k2_t8 : Fin k2_t8_loop.trips) : Fin 1 → Nat :=
  let c0_i32_34 : BitVec 32 := 0#32
  let c1_i32_36 : BitVec 32 := 1#32
  let arg8 : BitVec 32 := Scf.iv c0_i32_34 c1_i32_36 k2_t8
  let c16_i32 : BitVec 32 := 16#32
  let v19 : BitVec 32 := Scalar.muli arg8 c16_i32
  let v30 : Index := Scalar.indexCast v19
  ![v30.toNat]
abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_17 : BitVec 32 := 0#32
  let v34 : BitVec 1 := Scalar.cmpi .ne v33 c0_i32_17
  v34

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .smem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1000000 : Shape := ⟨1, ![1000000]⟩
abbrev S_ : Shape := ⟨0, ![]⟩
abbrev S1x1000000 : Shape := ⟨2, ![1, 1000000]⟩
abbrev S1000000x1 : Shape := ⟨2, ![1000000, 1]⟩
abbrev S1000000x1000000 : Shape := ⟨2, ![1000000, 1000000]⟩

abbrev nBuf : Space → Nat
  | .hbm => 42
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .i32⟩
  | .hbm, ⟨3, _⟩ => ⟨S_, .f32⟩
  | .hbm, ⟨4, _⟩ => ⟨S1000000, .f32⟩
  | .hbm, ⟨5, _⟩ => ⟨S1000000, .f32⟩
  | .hbm, ⟨6, _⟩ => ⟨S1000000, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .f32⟩
  | .hbm, ⟨16, _⟩ => ⟨S1000000, .f32⟩
  | .hbm, ⟨17, _⟩ => ⟨S1x1000000, .i32⟩
  | .hbm, ⟨18, _⟩ => ⟨S1000000x1, .i32⟩
  | .hbm, ⟨19, _⟩ => ⟨S1000000x1000000, .i32⟩
  | .hbm, ⟨20, _⟩ => ⟨S1000000x1000000, .i32⟩
  | .hbm, ⟨21, _⟩ => ⟨S1000000x1000000, .i1⟩
  | .hbm, ⟨22, _⟩ => ⟨S1x1000000, .f32⟩
  | .hbm, ⟨23, _⟩ => ⟨S_, .f32⟩
  | .hbm, ⟨24, _⟩ => ⟨S_, .f32⟩
  | .hbm, ⟨25, _⟩ => ⟨S1000000x1000000, .f32⟩
  | .hbm, ⟨26, _⟩ => ⟨S1000000x1000000, .f32⟩
  | .hbm, ⟨27, _⟩ => ⟨S1000000x1000000, .f32⟩
  | .hbm, ⟨28, _⟩ => ⟨S_, .f32⟩
  | .hbm, ⟨29, _⟩ => ⟨S1000000, .f32⟩
  | .hbm, ⟨30, _⟩ => ⟨S1000000, .f32⟩
  | .hbm, ⟨31, _⟩ => ⟨S1000000, .f32⟩
  | .hbm, ⟨32, _⟩ => ⟨S1000000, .f32⟩
  | .hbm, ⟨33, _⟩ => ⟨S1000000, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== Proof.ICommon.lean ====
/-
  What every module about the kernel program shares: the program as the SparseCore launch theorem sees it, the resource
  algebra (the handshakes' rounds, the two TensorCore pipelines' rounds, the transfers' counters) and the arrays.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the two TensorCore pipelines over the kernel bodies. -/
abbrev ΛP : Labels := Pipeline.Sig Λ₀ (Fin 2) fun p => (pcfgs (F := F) p).Adm
/-- The two SparseCore calls. -/
abbrev K : SparseCore.Cfg τ sig (ΛP (F := F)) 2 := sc (F := F)
/-- The definitions of the pipelines over the kernel bodies. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch theorem. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub0 : (K (F := F)).nSub 0 = 16 := rfl
theorem nSub1 : (K (F := F)).nSub 1 = 16 := rfl
theorem nCore0 : (K (F := F)).nCore 0 = 2 := rfl
theorem nCore1 : (K (F := F)).nCore 1 = 2 := rfl

/-! ## The resource algebra -/

/-- The handshakes' rounds. -/
abbrev UH : Type := URounds (GSem nD τ sig) ℕ
/-- The pipelines' rounds. -/
abbrev UP : Type := URounds (GSem nD τ sig) Unit
/-- All ghost state: the handshakes' rounds, the pipelines' rounds, the transfers' counters. -/
abbrev UU : Type := UH × (UP × Counters)

/-- The resources of the logic, at this program. -/
abbrev MM (F : FTy → Type) : Type := MT nD τ sig (HIx 2) (Elt F) ℕ UU ℕ

local notation "𝕄" => MT nD τ sig (HIx 2) (Elt F) ℕ UU ℕ

/-- The handshakes' rounds inside the resources; -/
abbrev EH : Emb UH (MT nD τ sig (HIx 2) (Elt F) ℕ UU ℕ) := embL
/-- and the pipelines'. -/
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP : Emb UP 𝕄).LandsIn (upEmb : UEmb _ 𝕄) := by unfold EP embR; infer_instance

/-! ## The arrays the SparseCore calls touch, as locations of device `d` -/

/-- The padded log risks, -/
abbrev lrLoc (d : Dev nD) : Loc nD τ sig := (SparseCore.T d).loc main_v0
/-- the padded durations, -/
abbrev duLoc (d : Dev nD) : Loc nD τ sig := (SparseCore.T d).loc main_v1
/-- the tiles' histograms, -/
abbrev hiLoc (d : Dev nD) : Loc nD τ sig := (SparseCore.T d).loc main_v4
/-- the suffix sums as one row, -/
abbrev suLoc (d : Dev nD) : Loc nD τ sig := (SparseCore.T d).loc main_v7
/-- the gathered suffix sums. -/
abbrev gaLoc (d : Dev nD) : Loc nD τ sig := (SparseCore.T d).loc main_v8

end Cert.Proof.KI

end
-- ==== Proof.IValues.lean ====
/-
  The values the kernel computes, as functions of its arrays: written in the program's own operations, at any float
  instance.
-/
module

public import proofs.«01_k».proof.Proof.ICommon

@[expose] public section

noncomputable section

namespace Cert.Proof.KI

open Cert.KernelIdeal Cert.KernelIdeal.Gen

open Idealize.ShloMosaic

variable {F : FTy → Type} [FloatOps F]

/-- Entry `k` (wrapping round) of an array of 1048576. -/
def ixN (k : ℕ) : S1048576.Idx := Shape.ofLane (d := ![1048576]) ⟨k % 1048576, Nat.mod_lt _ (by decide)⟩
/-- Entry `k` (wrapping round) of a chunk of 4096. -/
def ixC (k : ℕ) : S4096.Idx := Shape.ofLane (d := ![4096]) ⟨k % 4096, Nat.mod_lt _ (by decide)⟩

/-- The sixteen entries of a chunk that trip `t` reads. -/
def lanes (x : Vec F S4096 .f32) (t : ℕ) : Vec F S16 .f32 := fun j => x (ixC (16 * t + (j 0).val))

/-- Where tile `(c, s)`'s part of the padded arrays begins. -/
def tileBase (c s : ℕ) : ℕ := 65536 * s + 32768 * c

/-- Chunk `r` of tile `(c, s)`'s part of a padded array. -/
def chunk (x : Vec F S1048576 .f32) (c s r : ℕ) : Vec F S4096 .f32 := fun j => x (ixN (tileBase c s + 4096 * r + (j 0).val))

/-- A word clipped to 0 … 32767 is below 32768. -/
theorem clip_lt (w : BitVec 32) : (IntOp.minsi 32767#32 (IntOp.maxsi 0#32 w)).toNat < 32768 := by
  unfold IntOp.minsi IntOp.maxsi
  by_cases h : w.slt 0#32 = true
  · rw [if_pos h]; decide
  · rw [if_neg h]
    split
    · decide
    · rename_i h2
      simp only [BitVec.slt, decide_eq_true_eq, not_lt] at h h2
      have e1 : (0#32).toInt = 0 := by decide
      have e2 : (32767#32).toInt = 32767 := by decide
      rw [e1] at h; rw [e2] at h2
      have hw := BitVec.toInt_eq_toNat_cond w
      split at hw <;> omega

/-- Every bucket is one of the 32768. -/
theorem bucket_lt (v : Vec F S16 .f32) : k0_chk1 (k0_pay2 v) := by
  intro a x
  obtain rfl : a = 0 := Subsingleton.elim _ _
  exact clip_lt _

/-- One trip of the scatter: the sixteen weights added into their buckets. -/
def trip (x y : Vec F S4096 .f32) (t : ℕ) (f : Vec F S32768 .f32) : Vec F S32768 .f32 :=
  storeIdx f ![k0_pay2 (lanes y t)] (k0_pay1 (lanes x t)) (fun _ => 1#1) true (k0_idx1_inb _ (bucket_lt _))

/-- The histogram after `t` trips over a chunk of log risks `x` and durations `y`. -/
def trips (x y : Vec F S4096 .f32) (f : Vec F S32768 .f32) : ℕ → Vec F S32768 .f32
  | 0 => f
  | t + 1 => trip x y t (trips x y f t)

/-- The histogram of tile `(c, s)` after `r` chunks. -/
def histUpTo (lr du : Vec F S1048576 .f32) (c s : ℕ) : ℕ → Vec F S32768 .f32
  | 0 => fun _ => Scalar.ofBits .f32 0x00000000#32
  | r + 1 => trips (chunk lr c s r) (chunk du c s r) (histUpTo lr du c s r) 256

/-- The histograms of all tiles: row `2 s + c` is tile `(c, s)`'s. -/
def hist (lr du : Vec F S1048576 .f32) : Vec F S32x32768 .f32 :=
  fun j => histUpTo lr du ((j 0).val % 2) ((j 0).val / 2) 8 (Shape.ofLane (d := ![32768]) (j 1))

/-- The bucket of a duration, as a word. -/
def bucketW (x : F .f32) : BitVec 32 := k0_pay2 (fun _ : S16.Idx => x) (Shape.ofLane (d := ![16]) ⟨0, by decide⟩)

theorem bucketW_lt (x : F .f32) : (bucketW x).toNat < 32768 := clip_lt _

/-- The bucket of a duration, as an index of a row of 32768. -/
def bucketIx (x : F .f32) : S32768.Idx := Shape.ofLane (d := ![32768]) ⟨(bucketW x).toNat, bucketW_lt x⟩

/-- Entry by entry, the row's value at the duration's bucket: over a chunk, -/
def gatC (s : Vec F S32768 .f32) (x : Vec F S4096 .f32) : Vec F S4096 .f32 := fun j => s (bucketIx (x j))
/-- and over the whole padded array. -/
def gat (s : Vec F S32768 .f32) (du : Vec F S1048576 .f32) : Vec F S1048576 .f32 := fun j => s (bucketIx (du j))

/-- The sixteen indices one trip of the gather reads at are inside the row. -/
theorem bucket_lt' (v : Vec F S16 .f32) : k2_chk1 (k2_pay1 v) := by
  intro a x
  obtain rfl : a = 0 := Subsingleton.elim _ _
  exact clip_lt _

end Cert.Proof.KI

end
-- ==== Proof.ITile.lean ====
/-
  What the two vector-subcore kernels share: a tile's own semaphores and scratch buffers peeled off what the launch hands
  it, and one trip of either loop.
-/
module

public import proofs.«01_k».proof.Proof.IValues

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Peeling -/

/-- A listed part of a separating conjunction, taken out. -/
theorem bigSep_peel {I : Type} [DecidableEq I] (l : List I) (hl : l.Nodup) {A : Finset I} (h : l.toFinset ⊆ A) (Φ : I → sProp 𝕄) :
    bigSep A Φ = iprop(bigSepL l Φ ∗ bigSep (A \ l.toFinset) Φ) := by
  rw [bigSep_sdiff_split h, bigSep_eq_bigSepL l hl]; rfl

/-- A tile's listed transfer semaphores, taken out of its own. -/
theorem sems_peel (d : Dev nD) (c : Fin τ.nSC) (i : Fin τ.nSub) (l : List (DmaSem sig)) (hl : l.Nodup)
    (hs : ∀ s ∈ l, (SemLoc.dma s : SemLoc sig).isScoped .scVector = true) :
    (ownSems0 (V d c i) : sProp 𝕄)
      = iprop(bigSepL (l.map fun s => (V d c i, (SemLoc.dma s : SemLoc sig))) (fun g => semVal g 0)
          ∗ bigSep (ownCells (V d c i) \ (l.map fun s => (V d c i, (SemLoc.dma s : SemLoc sig))).toFinset) fun g => semVal g 0) := by
  unfold SparseCore.Cfg.ownSems0
  refine bigSep_peel _ (hl.map fun a b e => by simpa using e) ?_ _
  intro g hg
  rw [List.mem_toFinset, List.mem_map] at hg
  obtain ⟨s, hsl, rfl⟩ := hg
  exact mem_ownCells.mpr ⟨rfl, hs s hsl⟩

/-- A tile's listed buffers, taken out of its own. -/
theorem bufs_peel (d : Dev nD) (c : Fin τ.nSC) (i : Fin τ.nSub) (l : List (Ref sig .scVector)) (hl : l.Nodup)
    (hs : ∀ b ∈ l, (Proc.scVector c i).devRef b ∈ ownRefs (τ := τ) (sig := sig) (.scVector c i)) :
    (ownBufs (V d c i) : sProp 𝕄)
      = iprop(bigSepL (l.map (Proc.scVector c i).devRef) (fun b => iprop(∃ f, ((d, b) : Loc nD τ sig) ↦{fullShare} f))
          ∗ bigSep (ownRefs (τ := τ) (.scVector c i) \ (l.map (Proc.scVector c i).devRef).toFinset)
              fun b => iprop(∃ f, ((d, b) : Loc nD τ sig) ↦{fullShare} f)) := by
  unfold SparseCore.Cfg.ownBufs
  refine bigSep_peel _ (hl.map (Proc.devRef_injective _)) ?_ _
  intro g hg
  rw [List.mem_toFinset, List.mem_map] at hg
  obtain ⟨s, hsl, rfl⟩ := hg
  exact hs s hsl

end Cert.Proof.KI

end
-- ==== Proof.IHist.lean ====
/-
  The histogram kernel on one tile: the tile's 32768 log risks and durations come in eight chunks, every trip adds sixteen
  weights into their buckets, and the tile's histogram goes out to its row.
-/
module

public import proofs.«01_k».proof.Proof.ITile
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

section Trip

variable [FloatOps F]

/-- Core and subcore of the tile with grid coordinates `L`. -/
abbrev cH (L : grid0.Coords) : Fin τ.nSC := (L 0).castLE hcore0
abbrev jH (L : grid0.Coords) : Fin τ.nSub := (L 1).castLE hsub0
abbrev thrH (d : Dev nD) (L : grid0.Coords) : Thread nD τ := V d (cH L) (jH L)

abbrev bHist : Memref sig .scVector .vmem S32768 .f32 := Memref.whole cc0_scratch0
abbrev bLr : Memref sig .scVector .vmem S4096 .f32 := Memref.whole cc0_scratch1
abbrev bDu : Memref sig .scVector .vmem S4096 .f32 := Memref.whole cc0_scratch2

/-- One trip of the chunk loop, at the offset `off` into the chunk. -/
def tripProg (L : grid0.Coords) (off : Fin 1 → ℕ) (hoff : ∀ a, off a + S16.size a ≤ S4096.size a) :
    Prog (TpuEff nD τ sig (Elt F) Λ₀ (.scVector (cH L) (jH L))) Unit := do
  let v22 : Vec F S16 .f32 ← Prog.lift (.load bLr (Rect.unit (s := S4096) off S16.size hoff).toLoadRect (View.loadsAt_vmem h_S16))
  let v25 : Vec F S16 .f32 ← Prog.lift (.load bDu (Rect.unit (s := S4096) off S16.size hoff).toLoadRect (View.loadsAt_vmem h_S16))
  have v32 : IVec S16 32 := k0_pay2 v25
  have k0_hw1 : k0_chk1 v32 := (← Prog.lift (TpuEff.assume (k0_chk1 v32) (k0_chk1.dec v32))).down
  SparseCore.vectorStoreIdx bHist ![v32] (k0_pay1 v22) (fun _ => 1#1) true (k0_idx1_inb v32 k0_hw1) (View.stores_vmem_bits_univ h_S32768 rfl)
  pure ⟨⟩

theorem ix_lanes (off : Fin 1 → ℕ) (hoff : ∀ a, off a + S16.size a ≤ S4096.size a) (t : ℕ) (e : off = ![16 * t]) (j : S16.Idx) :
    (Rect.unit (s := S4096) off S16.size hoff).toLoadRect.idx j = ixC (16 * t + (j 0).val) := by
  subst e
  funext a; apply Fin.ext
  obtain rfl : a = 0 := Subsingleton.elim _ _
  have h := hoff 0
  have hj : (j 0).val < 16 := (j 0).isLt
  rw [LoadRect.idx_apply]
  show 16 * t + 1 * (j 0).val = (16 * t + (j 0).val) % 4096
  have h' : 16 * t + 16 ≤ 4096 := h
  rw [Nat.mod_eq_of_lt (by omega)]; omega

theorem read_lr (off : Fin 1 → ℕ) (hoff : ∀ a, off a + S16.size a ≤ S4096.size a) (t : ℕ) (e : off = ![16 * t]) (x : Vec F S4096 .f32) :
    (bLr).view.readAt (Elt F) (Rect.unit (s := S4096) off S16.size hoff).toLoadRect x = lanes x t := by
  funext j
  simp only [View.readAt_apply, Memref.view_whole, View.read_whole]
  rw [ix_lanes off hoff t e]; rfl
theorem read_du (off : Fin 1 → ℕ) (hoff : ∀ a, off a + S16.size a ≤ S4096.size a) (t : ℕ) (e : off = ![16 * t]) (x : Vec F S4096 .f32) :
    (bDu).view.readAt (Elt F) (Rect.unit (s := S4096) off S16.size hoff).toLoadRect x = lanes x t := by
  funext j
  simp only [View.readAt_apply, Memref.view_whole, View.read_whole]
  rw [ix_lanes off hoff t e]; rfl

variable (d : Dev nD) (L : grid0.Coords)

theorem pts_bHist_whole (f : Buf (Elt F) ((bHist).view.loc (thrH d L))) :
    (((bHist).access (.whole S32768)).loc (thrH d L) ↦[((bHist).access (.whole S32768)).set]{fullShare} f : sProp 𝕄)
      = ((bHist).view.loc (thrH d L) ↦{fullShare} f) := by
  rw [show ((bHist).access (.whole S32768)).set = Finset.univ from Memref.set_access_whole (cc0_scratch0 : Ref sig .scVector)]

theorem hist_write (f w : Vec F S32768 .f32) : ((bHist).access (.whole S32768)).write (Elt F) f w Finset.univ = w :=
  Memref.write_access_whole_univ (Elt F) cc0_scratch0 f w
theorem hist_read (f : Vec F S32768 .f32) : ((bHist).access (.whole S32768)).read (Elt F) f = f :=
  Memref.read_access_whole (Elt F) cc0_scratch0 f

/-- The three scratch buffers at given contents. -/
def bufsH (f : Vec F S32768 .f32) (x y : Vec F S4096 .f32) : sProp 𝕄 :=
  iprop(((bHist).view.loc (thrH d L) ↦{fullShare} f) ∗ ((bLr).view.loc (thrH d L) ↦{fullShare} x) ∗ ((bDu).view.loc (thrH d L) ↦{fullShare} y))

/-- One trip adds sixteen weights of the chunk into the histogram. -/
theorem wp_trip (off : Fin 1 → ℕ) (hoff : ∀ a, off a + S16.size a ≤ S4096.size a) (t : ℕ) (e : off = ![16 * t])
    (f : Vec F S32768 .f32) (x y : Vec F S4096 .f32) :
    bufsH d L f x y ⊢ wp frame (wpE (defs₀ (F := F)) 𝒱₀ (thrH d L) none) Set.univ (tripProg L off hoff)
      fun _ => bufsH d L (trip x y t f) x y := by
  unfold bufsH tripProg
  simp only [Prog.lift, Prog.bind_op, Prog.bind_ret, Prog.pure_eq_ret]
  iintro ⟨Hh, Hx, Hy⟩
  iapply (wp_load 𝒱₀ (thrH d L) none Set.univ (m := bLr) (S := Finset.univ) (Finset.subset_univ _)) $$ Hx; iintro Hx
  iapply (wp_load 𝒱₀ (thrH d L) none Set.univ (m := bDu) (S := Finset.univ) (Finset.subset_univ _)) $$ Hy; iintro Hy
  rw [read_lr off hoff t e, read_du off hoff t e]
  rw [wp_assume_of _ _ _ _ (bucket_lt _)]
  ihave Hh' := (Entails.of_eq (pts_bHist_whole (F := F) d L _).symm) $$ Hh
  iapply (SparseCore.wp_vectorStoreIdx 𝒱₀ (thrH d L) none Set.univ (base := bHist)) $$ Hh'; iintro Hh
  rw [hist_write, hist_read]
  ihave Hh' := (Entails.of_eq (pts_bHist_whole (F := F) d L _)) $$ Hh
  rw [wp_ret]; imodintro
  isplitl [Hh']
  · iexact Hh'
  isplitl [Hx] <;> iassumption

/-- One more wait at the kernel's own index keeps the recorded waits among the old ones and those. -/
theorem more_waits {W W' : Waits sig (HIx 2)} {s : SemLoc sig} (h : ∀ p ∈ W', p ∈ W ∨ p.2 = none) :
    ∀ p ∈ insert (s, (default : HIx 2)) W', p ∈ W ∨ p.2 = none := by
  intro p hp
  rcases Finset.mem_insert.mp hp with rfl | hp
  · exact .inr rfl
  · exact h p hp

/-! ## A chunk -/

abbrev aLr : Memref sig .scVector .hbm S1048576 .f32 := Memref.whole main_v0_scv
abbrev aDu : Memref sig .scVector .hbm S1048576 .f32 := Memref.whole main_v1_scv
abbrev aHi : Memref sig .scVector .hbm S32x32768 .f32 := Memref.whole main_v4_scv

/-- A chunk's slice of a padded array, as the program spells it. -/
abbrev slab (L : grid0.Coords) (o : BitVec 32) (h : ∀ a, k0_off2 L o a + S4096.size a ≤ S1048576.size a)
    (a : Memref sig .scVector .hbm S1048576 .f32) : Memref sig .scVector .hbm S4096 .f32 :=
  a.slice (Rect.unit (s := S1048576) (k0_off2 L o) S4096.size h) (fun _ => rfl)

/-- A chunk's fetches and its loop, then `k`. -/
def chunkProg (L : grid0.Coords) (o : BitVec 32) (h : ∀ a, k0_off2 L o a + S4096.size a ≤ S1048576.size a) (sa sb : DmaSem sig)
    (lp : Scf.Loop 32) (ok : lp.OK) (body : Fin lp.trips → Unit → Prog (TpuEff nD τ sig (Elt F) Λ₀ (.scVector (cH L) (jH L))) Unit)
    {α : Type} (k : Unit → Prog (TpuEff nD τ sig (Elt F) Λ₀ (.scVector (cH L) (jH L))) α) :
    Prog (TpuEff nD τ sig (Elt F) Λ₀ (.scVector (cH L) (jH L))) α := do
  Prog.lift (.enqueueDma (slab L o h aLr) (.here bLr) (.dma sa) (View.wordExact_bits rfl) (Memref.isWhole_whole cc0_scratch1).wordExact ⟨Or.inl rfl, trivial⟩)
  Prog.lift (.waitDma2 sa (slab L o h aLr) bLr (View.wordExact_bits rfl) (Memref.isWhole_whole cc0_scratch1).wordExact)
  Prog.lift (.enqueueDma (slab L o h aDu) (.here bDu) (.dma sb) (View.wordExact_bits rfl) (Memref.isWhole_whole cc0_scratch2).wordExact ⟨Or.inl rfl, trivial⟩)
  Prog.lift (.waitDma2 sb (slab L o h aDu) bDu (View.wordExact_bits rfl) (Memref.isWhole_whole cc0_scratch2).wordExact)
  let u ← Scf.Loop.for lp ok ⟨⟩ body
  k u

theorem read_slab (L : grid0.Coords) (o : BitVec 32) (h : ∀ a, k0_off2 L o a + S4096.size a ≤ S1048576.size a) (r : ℕ) (hr : r < 8)
    (e : k0_off2 L o = ![65536 * (L 1).val + 32768 * (L 0).val + 4096 * r]) (x : Vec F S1048576 .f32) :
    (slab L o h aLr).view.read (Elt F) x = chunk x (L 0).val (L 1).val r := by
  funext j
  rw [View.read_apply]
  refine congrArg x ?_
  funext a; apply Fin.ext
  obtain rfl : a = (0 : Fin 1) := Subsingleton.elim (α := Fin 1) _ _
  show (k0_off2 L o) 0 + 1 * (j 0).val = (tileBase (L 0).val (L 1).val + 4096 * r + (j 0).val) % 1048576
  rw [e]
  have h0 : (L 0).val < 2 := (L 0).isLt
  have h1 : (L 1).val < 16 := (L 1).isLt
  have hj : (j 0).val < 4096 := (j 0).isLt
  unfold tileBase
  rw [Nat.mod_eq_of_lt (by omega)]
  show 65536 * (L 1).val + 32768 * (L 0).val + 4096 * r + 1 * (j 0).val = _
  omega

/-- One chunk: its log risks and durations fetched, its weights added into their buckets. -/
theorem wp_chunk (o : BitVec 32) (h : ∀ a, k0_off2 L o a + S4096.size a ≤ S1048576.size a) (sa sb : DmaSem sig)
    (lp : Scf.Loop 32) (ok : lp.OK) (body : Fin lp.trips → Unit → Prog (TpuEff nD τ sig (Elt F) Λ₀ (.scVector (cH L) (jH L))) Unit)
    (htr : lp.trips = 256) (off : Fin lp.trips → Fin 1 → ℕ) (hoff : ∀ t a, off t a + S16.size a ≤ S4096.size a)
    (eoff : ∀ t, off t = ![16 * t.val]) (hbody : ∀ t u, body t u = tripProg L (off t) (hoff t))
    (r : ℕ) (hr : r < 8) (e : k0_off2 L o = ![65536 * (L 1).val + 32768 * (L 0).val + 4096 * r])
    {α : Type} (k : Unit → Prog (TpuEff nD τ sig (Elt F) Λ₀ (.scVector (cH L) (jH L))) α) (Q : α → sProp 𝕄)
    (O : CellTallies nD τ sig (HIx 2)) (W : Waits sig (HIx 2)) (qa qb : PosShare TreeShare)
    (lr du : Vec F S1048576 .f32) (f : Vec F S32768 .f32) (x y : Vec F S4096 .f32) :
    iprop(Transfers.MayWaits (thrH d L) (none : HIx 2) O
        ∗ ((aLr).view.loc (thrH d L) ↦{qa} lr) ∗ ((aDu).view.loc (thrH d L) ↦{qb} du) ∗ bufsH d L f x y
        ∗ semVal (thrH d L, SemLoc.dma sa) 0 ∗ semVal (thrH d L, SemLoc.dma sb) 0 ∗ owes (thrH d L) O W
        ∗ ((((aLr).view.loc (thrH d L) ↦{qa} lr) ∗ ((aDu).view.loc (thrH d L) ↦{qb} du)
            ∗ bufsH d L (trips (chunk lr (L 0).val (L 1).val r) (chunk du (L 0).val (L 1).val r) f 256)
                (chunk lr (L 0).val (L 1).val r) (chunk du (L 0).val (L 1).val r)
            ∗ semVal (thrH d L, SemLoc.dma sa) 0 ∗ semVal (thrH d L, SemLoc.dma sb) 0
            ∗ ∃ W', ⌜∀ p ∈ W', p ∈ W ∨ p.2 = none⌝ ∗ owes (thrH d L) O W')
          -∗ wp frame (wpE (defs₀ (F := F)) 𝒱₀ (thrH d L) none) Set.univ (k ⟨⟩) Q))
      ⊢ wp frame (wpE (defs₀ (F := F)) 𝒱₀ (thrH d L) none) Set.univ (chunkProg L o h sa sb lp ok body k) Q := by
  unfold chunkProg bufsH
  iintro ⟨#Hmw, Hlr, Hdu, ⟨Hf, Hx, Hy⟩, Hsa, Hsb, HO, Hk⟩
  sl_exec
  sl_for (fun (t : ℕ) (_ : Unit) => bufsH d L (trips (chunk lr (L 0).val (L 1).val r) (chunk du (L 0).val (L 1).val r) f t)
      (chunk lr (L 0).val (L 1).val r) (chunk du (L 0).val (L 1).val r)) $$ [Hf Hx Hy]
  case region =>
    intro t u
    have hw := fun g => wp_trip d L (off t) (hoff t) t.val (eoff t) g (chunk lr (L 0).val (L 1).val r) (chunk du (L 0).val (L 1).val r)
    simp only [← hbody t u] at hw
    exact hw _
  · unfold bufsH
    rw [show View.write (Elt F) bLr.view x (wp_chunk.sl.dma0 L o h lr) Finset.univ = chunk lr (L 0).val (L 1).val r from
        (View.write_whole_univ cc0_scratch1 x _).trans (read_slab L o h r hr e lr),
      show View.write (Elt F) bDu.view y (wp_chunk.sl.dma0_1 L o h du) Finset.univ = chunk du (L 0).val (L 1).val r from
        (View.write_whole_univ cc0_scratch2 y _).trans (read_slab L o h r hr e du)]
    isplitl [Hf]; · iexact Hf
    isplitl [Hx] <;> iassumption
  iintro %_ HI
  rw [show Scf.trips lp.lb lp.ub lp.st = 256 from htr]
  unfold bufsH
  iapply Hk
  isplitl [Hlr]; · iexact Hlr
  isplitl [Hdu]; · iexact Hdu
  isplitl [HI]; · iexact HI
  isplitl [Hsa]; · iexact Hsa
  isplitl [Hsb]; · iexact Hsb
  iexists (insert (SemLoc.dma sb, (default : HIx 2)) (insert (SemLoc.dma sa, (default : HIx 2)) W))
  isplitr
  · ipureintro; exact more_waits (more_waits fun p hp => .inl hp)
  iexact HO

/-! ## The zeroing loop -/

/-- One trip of the zeroing loop. -/
def zeroProg (L : grid0.Coords) (off : Fin 1 → ℕ) (hoff : ∀ a, off a + S16.size a ≤ S32768.size a) :
    Prog (TpuEff nD τ sig (Elt F) Λ₀ (.scVector (cH L) (jH L))) Unit := do
  let _v23 : Vec F S16 .f32 ← Prog.lift (.load bHist (Rect.unit (s := S32768) off S16.size hoff).toLoadRect (View.loadsAt_vmem h_S16))
  Prog.lift (.store bHist (Rect.unit (s := S32768) off S16.size hoff) (k0_pay3 (F := F)) Finset.univ (View.stores_vmem_bits_univ h_S16 rfl) (.inl rfl))
  pure ⟨⟩

/-- The first `16 t` buckets are zero. -/
def zeroUpTo (t : ℕ) (f : Vec F S32768 .f32) : Prop := ∀ j : S32768.Idx, (j 0).val < 16 * t → f j = Scalar.ofBits .f32 0x00000000#32

theorem zero_write (off : Fin 1 → ℕ) (hoff : ∀ a, off a + S16.size a ≤ S32768.size a) (t : ℕ) (e : off = ![16 * t])
    (f : Vec F S32768 .f32) (hf : zeroUpTo t f) :
    zeroUpTo (t + 1) (((bHist).access (Rect.unit (s := S32768) off S16.size hoff)).write (Elt F) f (k0_pay3 (F := F)) Finset.univ) := by
  intro j hj
  have hw := View.write_whole_slice_unit (Val := Elt F) (cc0_scratch0 : Ref sig .scVector) off S16.size hoff f (k0_pay3 (F := F))
  refine (congrFun hw j).trans ?_
  unfold updateSlice
  split
  · rfl
  · next hout =>
    refine hf j ?_
    by_contra hlt
    refine hout fun a => ?_
    obtain rfl : a = (0 : Fin 1) := Subsingleton.elim (α := Fin 1) _ _
    have e0 : off 0 = 16 * t := by rw [e]; rfl
    show off 0 ≤ (j 0).val ∧ (j 0).val < off 0 + 16
    omega

theorem wp_zero (off : Fin 1 → ℕ) (hoff : ∀ a, off a + S16.size a ≤ S32768.size a) (t : ℕ) (e : off = ![16 * t]) :
    iprop(∃ f, ⌜zeroUpTo t f⌝ ∗ ((bHist).view.loc (thrH d L) ↦{fullShare} f))
      ⊢ wp frame (wpE (defs₀ (F := F)) 𝒱₀ (thrH d L) none) Set.univ (zeroProg L off hoff)
        fun _ => (iprop(∃ f, ⌜zeroUpTo (t + 1) f⌝ ∗ ((bHist).view.loc (thrH d L) ↦{fullShare} f)) : sProp 𝕄) := by
  unfold zeroProg
  simp only [Prog.lift, Prog.bind_op, Prog.bind_ret, Prog.pure_eq_ret]
  iintro ⟨%f, %hf, Hh⟩
  iapply (wp_load 𝒱₀ (thrH d L) none Set.univ (m := bHist) (S := Finset.univ) (Finset.subset_univ _)) $$ Hh; iintro Hh
  iapply (wp_store 𝒱₀ (thrH d L) none Set.univ (m := bHist) (r := Rect.unit (s := S32768) off S16.size hoff) (Mk := Finset.univ) (S := Finset.univ) (Finset.subset_univ _)) $$ Hh; iintro Hh
  rw [wp_ret]; imodintro
  iexists _
  isplitr
  · ipureintro; exact zero_write off hoff t e f hf
  iexact Hh

/-! ## The write-out -/

/-- The tile's row of the histograms, as the program slices it. -/
abbrev rowOut (L : grid0.Coords) : Memref sig .scVector .hbm S32768 .f32 :=
  ((aHi).slice (Rect.unit (s := S32x32768) (k0_off11 L) S1x32768.size (k0_off11_inb L)) (fun _ => rfl)).squeeze S32768 squeezes_S1x32768_S32768

/-- The histogram sent to its row, and the wait. -/
def outProg (L : grid0.Coords) : Prog (TpuEff nD τ sig (Elt F) Λ₀ (.scVector (cH L) (jH L))) PUnit := do
  Prog.lift (.enqueueDma bHist (.here (rowOut L)) (.dma cc0_scoped16.sem) (Memref.isWhole_whole cc0_scratch0).wordExact ((View.wordExact_bits rfl).reshape _ _) ⟨Or.inl rfl, trivial⟩)
  Prog.lift (.waitDma2 cc0_scoped16.sem bHist (rowOut L) (Memref.isWhole_whole cc0_scratch0).wordExact ((View.wordExact_bits rfl).reshape _ _))
  pure ⟨⟩

set_option maxRecDepth 65536 in
/-- The kernel is the zeroing loop, eight chunks and the write-out. -/
theorem hist_chain (L : grid0.Coords) :
    cc0_hist_kernel (F := F) L aLr (Memref.isWhole_whole _) aDu (Memref.isWhole_whole _) aHi (Memref.isWhole_whole _) bHist (Memref.isWhole_whole _)
        bLr (Memref.isWhole_whole _) bDu (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16
      = (Scf.Loop.for k0_t1_loop k0_t1_ok ⟨⟩ (fun t _ => zeroProg L (k0_off1 t) (k0_off1_inb t)) >>= fun _ =>
    chunkProg L 0#32 (k0_off2_inb L 0) cc0_scoped0.sem cc0_scoped1.sem k0_t2_loop k0_t2_ok (fun t _ => tripProg L (k0_off3 t) (k0_off3_inb t)) fun _ =>
    chunkProg L 4096#32 (k0_off2_inb L 1) cc0_scoped2.sem cc0_scoped3.sem k0_t3_loop k0_t3_ok (fun t _ => tripProg L (k0_off4 t) (k0_off4_inb t)) fun _ =>
    chunkProg L 8192#32 (k0_off2_inb L 2) cc0_scoped4.sem cc0_scoped5.sem k0_t4_loop k0_t4_ok (fun t _ => tripProg L (k0_off5 t) (k0_off5_inb t)) fun _ =>
    chunkProg L 12288#32 (k0_off2_inb L 3) cc0_scoped6.sem cc0_scoped7.sem k0_t5_loop k0_t5_ok (fun t _ => tripProg L (k0_off6 t) (k0_off6_inb t)) fun _ =>
    chunkProg L 16384#32 (k0_off2_inb L 4) cc0_scoped8.sem cc0_scoped9.sem k0_t6_loop k0_t6_ok (fun t _ => tripProg L (k0_off7 t) (k0_off7_inb t)) fun _ =>
    chunkProg L 20480#32 (k0_off2_inb L 5) cc0_scoped10.sem cc0_scoped11.sem k0_t7_loop k0_t7_ok (fun t _ => tripProg L (k0_off8 t) (k0_off8_inb t)) fun _ =>
    chunkProg L 24576#32 (k0_off2_inb L 6) cc0_scoped12.sem cc0_scoped13.sem k0_t8_loop k0_t8_ok (fun t _ => tripProg L (k0_off9 t) (k0_off9_inb t)) fun _ =>
    chunkProg L 28672#32 (k0_off2_inb L 7) cc0_scoped14.sem cc0_scoped15.sem k0_t9_loop k0_t9_ok (fun t _ => tripProg L (k0_off10 t) (k0_off10_inb t)) fun _ =>
    outProg L) := by
  simp only [cc0_hist_kernel_eq_skeleton, cc0_hist_kernel_skel, k0_part1_eq_skeleton, k0_part1_skel, k0_part2_eq_skeleton, k0_part2_skel,
    k0_part3_eq_skeleton, k0_part3_skel]
  unfold chunkProg outProg
  simp only [bind_assoc, Prog.lift, Prog.bind_op, Prog.bind_ret, Prog.pure_eq_ret]
  rfl

/-! ## The tile's obligation -/

/-- The thread's debts, with the recorded waits the old ones and the kernel's own. -/
def owesN (thr : Thread nD τ) (O : CellTallies nD τ sig (HIx 2)) (W : Waits sig (HIx 2)) : sProp 𝕄 :=
  iprop(∃ W', ⌜∀ p ∈ W', p ∈ W ∨ p.2 = none⌝ ∗ owes thr O W')

/-- What the tile holds between chunks, its histogram being `f`. -/
def stH (O : CellTallies nD τ sig (HIx 2)) (W : Waits sig (HIx 2)) (qa qb : PosShare TreeShare) (lr du : Vec F S1048576 .f32)
    (f : Vec F S32768 .f32) : sProp 𝕄 :=
  iprop(((aLr).view.loc (thrH d L) ↦{qa} lr) ∗ ((aDu).view.loc (thrH d L) ↦{qb} du) ∗ (∃ x y, bufsH d L f x y) ∗ owesN (thrH d L) O W)

/-- One chunk, from state to state. -/
theorem wp_chunk_st (o : BitVec 32) (h : ∀ a, k0_off2 L o a + S4096.size a ≤ S1048576.size a) (sa sb : DmaSem sig)
    (lp : Scf.Loop 32) (ok : lp.OK) (htr : lp.trips = 256) (off : Fin lp.trips → Fin 1 → ℕ)
    (hoff : ∀ t a, off t a + S16.size a ≤ S4096.size a) (eoff : ∀ t, off t = ![16 * t.val])
    (r : ℕ) (hr : r < 8) (e : k0_off2 L o = ![65536 * (L 1).val + 32768 * (L 0).val + 4096 * r])
    {α : Type} (k : Unit → Prog (TpuEff nD τ sig (Elt F) Λ₀ (.scVector (cH L) (jH L))) α) (Q : α → sProp 𝕄)
    (O : CellTallies nD τ sig (HIx 2)) (W : Waits sig (HIx 2)) (qa qb : PosShare TreeShare) (lr du : Vec F S1048576 .f32) :
    iprop(Transfers.MayWaits (thrH d L) (none : HIx 2) O ∗ stH d L O W qa qb lr du (histUpTo lr du (L 0).val (L 1).val r)
        ∗ semVal (thrH d L, SemLoc.dma sa) 0 ∗ semVal (thrH d L, SemLoc.dma sb) 0
        ∗ ((stH d L O W qa qb lr du (histUpTo lr du (L 0).val (L 1).val (r + 1))
            ∗ semVal (thrH d L, SemLoc.dma sa) 0 ∗ semVal (thrH d L, SemLoc.dma sb) 0)
          -∗ wp frame (wpE (defs₀ (F := F)) 𝒱₀ (thrH d L) none) Set.univ (k ⟨⟩) Q))
      ⊢ wp frame (wpE (defs₀ (F := F)) 𝒱₀ (thrH d L) none) Set.univ
          (chunkProg L o h sa sb lp ok (fun t _ => tripProg L (off t) (hoff t)) k) Q := by
  unfold stH owesN
  iintro ⟨#Hmw, ⟨Hlr, Hdu, ⟨%x, %y, Hb⟩, %W', %hW, HO⟩, Hsa, Hsb, Hk⟩
  iapply (wp_chunk d L o h sa sb lp ok _ htr off hoff eoff (fun _ _ => rfl) r hr e k Q O W' qa qb lr du _ x y)
  isplitr; · iexact Hmw
  isplitl [Hlr]; · iexact Hlr
  isplitl [Hdu]; · iexact Hdu
  isplitl [Hb]; · iexact Hb
  isplitl [Hsa]; · iexact Hsa
  isplitl [Hsb]; · iexact Hsb
  isplitl [HO]; · iexact HO
  iintro ⟨Hlr, Hdu, Hb, Hsa, Hsb, %W'', %hW', HO⟩
  iapply Hk
  isplitl [Hlr Hdu Hb HO]
  · isplitl [Hlr]; · iexact Hlr
    isplitl [Hdu]; · iexact Hdu
    isplitl [Hb]
    · iexists _, _; iexact Hb
    iexists W''
    isplitr
    · ipureintro; exact fun p hp => (hW' p hp).elim (hW p) .inr
    iexact HO
  isplitl [Hsa] <;> iassumption

/-- Row `2 s + c` of the histograms. -/
def hiRow (c s : ℕ) : Finset S32x32768.Idx := Finset.univ.filter fun j => (j 0).val = 2 * s + c

theorem rowOut_set : (rowOut L).view.set = hiRow (L 0).val (L 1).val := by
  show (((View.whole main_v4_scv).slice (Rect.unit (s := S32x32768) (k0_off11 L) S1x32768.size (k0_off11_inb L))).reshape S32768 _).set = _
  rw [View.set_reshape, View.set_slice_whole]
  ext j
  rw [Rect.mem_set_unit]
  have e := k0_off11_eq L
  have h1 : (j 1).val < 32768 := (j 1).isLt
  constructor
  · intro h
    have h0 := h 0
    rw [e] at h0
    have h0' : 2 * (L 1).val + (L 0).val ≤ (j 0).val ∧ (j 0).val < 2 * (L 1).val + (L 0).val + 1 := h0
    exact Finset.mem_filter.mpr ⟨Finset.mem_univ _, by omega⟩
  · intro h a
    have h0 := (Finset.mem_filter.mp h).2
    rw [e]
    match a with
    | 0 => show 2 * (L 1).val + (L 0).val ≤ (j 0).val ∧ (j 0).val < 2 * (L 1).val + (L 0).val + 1; omega
    | 1 => show 0 ≤ (j 1).val ∧ (j 1).val < 0 + 32768; omega

/-- The row, once written, holds the tile's histogram. -/
theorem rowOut_write (f0 : Vec F S32x32768 .f32) (lr du : Vec F S1048576 .f32) :
    ∀ j ∈ hiRow (L 0).val (L 1).val,
      (rowOut L).view.write (Elt F) f0 (histUpTo lr du (L 0).val (L 1).val 8) Finset.univ j = hist lr du j := by
  intro j hj
  have hj0 := (Finset.mem_filter.mp hj).2
  have h0 : (L 0).val < 2 := (L 0).isLt
  have he : (rowOut L).view.emb (Shape.ofLane (d := ![32768]) (j 1)) = j := by
    show (((View.whole main_v4_scv).slice (Rect.unit (s := S32x32768) (k0_off11 L) S1x32768.size (k0_off11_inb L))).reshape S32768 _).emb _ = _
    rw [View.emb_reshape]
    show ((View.whole main_v4_scv).slice (Rect.unit (s := S32x32768) (k0_off11 L) S1x32768.size (k0_off11_inb L))).emb (Shape.reshapeEquiv _ _) = _
    rw [Shape.reshapeEquiv_cons_one (n := 1) (d := ![32768])]
    have e := k0_off11_eq L
    funext a; apply Fin.ext
    rw [View.emb_slice, Function.Embedding.trans_apply, View.emb_whole, Function.Embedding.refl_apply, Rect.emb_apply]
    match a with
    | 0 =>
      show k0_off11 L 0 + 1 * 0 = (j 0).val
      rw [e]; show 2 * (L 1).val + (L 0).val + 1 * 0 = _; omega
    | 1 =>
      show k0_off11 L 1 + 1 * (j 1).val = (j 1).val
      rw [e]; show 0 + 1 * (j 1).val = _; omega
  conv_lhs => rw [← he, View.write_emb_of_mem _ _ (Finset.mem_univ _)]
  show histUpTo lr du (L 0).val (L 1).val 8 (Shape.ofLane (d := ![32768]) (j 1)) = _
  unfold hist
  rw [hj0, show (2 * (L 1).val + (L 0).val) % 2 = (L 0).val by omega, show (2 * (L 1).val + (L 0).val) / 2 = (L 1).val by omega]

/-- The write-out: the tile's row then holds its histogram. -/
theorem wp_out (O : CellTallies nD τ sig (HIx 2)) (W : Waits sig (HIx 2)) (qa qb : PosShare TreeShare) (lr du : Vec F S1048576 .f32)
    (f0 : Vec F S32x32768 .f32) :
    iprop(Transfers.MayWaits (thrH d L) (none : HIx 2) O ∗ stH d L O W qa qb lr du (histUpTo lr du (L 0).val (L 1).val 8)
        ∗ semVal (thrH d L, SemLoc.dma cc0_scoped16.sem) 0
        ∗ ((aHi).view.loc (thrH d L) ↦[hiRow (L 0).val (L 1).val]{fullShare} f0))
      ⊢ wp frame (wpE (defs₀ (F := F)) 𝒱₀ (thrH d L) none) Set.univ (outProg L) fun _ =>
        (iprop(stH d L O W qa qb lr du (histUpTo lr du (L 0).val (L 1).val 8)
          ∗ semVal (thrH d L, SemLoc.dma cc0_scoped16.sem) 0
          ∗ ((aHi).view.loc (thrH d L) ↦[hiRow (L 0).val (L 1).val]{fullShare} hist lr du)) : sProp 𝕄) := by
  unfold outProg stH owesN bufsH
  iintro ⟨#Hmw, ⟨Hlr, Hdu, ⟨%x, %y, Hf, Hx, Hy⟩, %W', %hW, HO⟩, Hs, Hrow⟩
  ihave Hrow' := (show ((aHi).view.loc (thrH d L) ↦[hiRow (L 0).val (L 1).val]{fullShare} f0 : sProp 𝕄)
      ⊢ ((rowOut L).view.loc (thrH d L) ↦[(rowOut L).view.set]{fullShare} f0) from by rw [rowOut_set]) $$ Hrow
  sl_exec
  rw [show (rowOut L).view.writes (Elt F) f0 [⟨Rect.whole S32768, wp_out.sl.dma0 L lr du⟩]
      = (rowOut L).view.write (Elt F) f0 (histUpTo lr du (L 0).val (L 1).val 8) Finset.univ from
    (View.write_univ_eq_writes_whole (Val := Elt F) (rowOut L).view f0 [] _).symm]
  ihave Hrow := (show ((rowOut L).view.loc (thrH d L) ↦[(rowOut L).view.set]{fullShare}
        (rowOut L).view.write (Elt F) f0 (histUpTo lr du (L 0).val (L 1).val 8) Finset.univ : sProp 𝕄)
      ⊢ ((aHi).view.loc (thrH d L) ↦[hiRow (L 0).val (L 1).val]{fullShare} hist lr du) from by
    rw [rowOut_set]
    exact Entails.of_eq (pointsTo_congr (rowOut_write L f0 lr du))) $$ Hrow'
  rw [wp_ret]; imodintro
  isplitl [Hlr Hdu Hf Hx Hy HO]
  · isplitl [Hlr]; · iexact Hlr
    isplitl [Hdu]; · iexact Hdu
    isplitl [Hf Hx Hy]
    · iexists x, y
      isplitl [Hf]; · iexact Hf
      isplitl [Hx] <;> iassumption
    iexists (insert (SemLoc.dma cc0_scoped16.sem, (default : HIx 2)) W')
    isplitr
    · ipureintro; exact more_waits hW
    iexact HO
  isplitl [Hs]; · iexact Hs
  iexact Hrow

theorem zeroed_eq {f : Vec F S32768 .f32} (h : zeroUpTo 2048 f) (lr du : Vec F S1048576 .f32) (c s : ℕ) : f = histUpTo lr du c s 0 := by
  funext j
  have hj : (j 0).val < 32768 := (j 0).isLt
  exact h j (by omega)

/-- The tile's semaphores, all at zero. -/
def semsH : sProp 𝕄 :=
  iprop(semVal (thrH d L, SemLoc.dma cc0_scoped0.sem) 0
    ∗ semVal (thrH d L, SemLoc.dma cc0_scoped1.sem) 0
    ∗ semVal (thrH d L, SemLoc.dma cc0_scoped2.sem) 0
    ∗ semVal (thrH d L, SemLoc.dma cc0_scoped3.sem) 0
    ∗ semVal (thrH d L, SemLoc.dma cc0_scoped4.sem) 0
    ∗ semVal (thrH d L, SemLoc.dma cc0_scoped5.sem) 0
    ∗ semVal (thrH d L, SemLoc.dma cc0_scoped6.sem) 0
    ∗ semVal (thrH d L, SemLoc.dma cc0_scoped7.sem) 0
    ∗ semVal (thrH d L, SemLoc.dma cc0_scoped8.sem) 0
    ∗ semVal (thrH d L, SemLoc.dma cc0_scoped9.sem) 0
    ∗ semVal (thrH d L, SemLoc.dma cc0_scoped10.sem) 0
    ∗ semVal (thrH d L, SemLoc.dma cc0_scoped11.sem) 0
    ∗ semVal (thrH d L, SemLoc.dma cc0_scoped12.sem) 0
    ∗ semVal (thrH d L, SemLoc.dma cc0_scoped13.sem) 0
    ∗ semVal (thrH d L, SemLoc.dma cc0_scoped14.sem) 0
    ∗ semVal (thrH d L, SemLoc.dma cc0_scoped15.sem) 0
    ∗ semVal (thrH d L, SemLoc.dma cc0_scoped16.sem) 0)

/-- The kernel on one tile: from its read shares and its row, its row holding its histogram. -/
theorem wp_hist (O : CellTallies nD τ sig (HIx 2)) (W : Waits sig (HIx 2)) (qa qb : PosShare TreeShare) (lr du : Vec F S1048576 .f32)
    (f0 : Vec F S32x32768 .f32) (f : Vec F S32768 .f32) (x y : Vec F S4096 .f32) :
    iprop(Transfers.MayWaits (thrH d L) (none : HIx 2) O
        ∗ ((aLr).view.loc (thrH d L) ↦{qa} lr) ∗ ((aDu).view.loc (thrH d L) ↦{qb} du) ∗ bufsH d L f x y ∗ owes (thrH d L) O W
        ∗ semsH d L
        ∗ ((aHi).view.loc (thrH d L) ↦[hiRow (L 0).val (L 1).val]{fullShare} f0))
      ⊢ wp frame (wpE (defs₀ (F := F)) 𝒱₀ (thrH d L) none) Set.univ
          (cc0_hist_kernel (F := F) L aLr (Memref.isWhole_whole _) aDu (Memref.isWhole_whole _) aHi (Memref.isWhole_whole _) bHist (Memref.isWhole_whole _)
            bLr (Memref.isWhole_whole _) bDu (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) fun _ =>
        (iprop(stH d L O W qa qb lr du (histUpTo lr du (L 0).val (L 1).val 8)
          ∗ semsH d L
          ∗ ((aHi).view.loc (thrH d L) ↦[hiRow (L 0).val (L 1).val]{fullShare} hist lr du)) : sProp 𝕄) := by
  rw [hist_chain]
  unfold semsH
  iintro ⟨#Hmw, Hlr, Hdu, Hb, HO, ⟨H0, H1, H2, H3, H4, H5, H6, H7, H8, H9, H10, H11, H12, H13, H14, H15, H16⟩, Hrow⟩
  unfold bufsH
  icases Hb with ⟨Hf, Hx, Hy⟩
  sl_for (fun (t : ℕ) (_ : Unit) => iprop(∃ g, ⌜zeroUpTo t g⌝ ∗ ((bHist).view.loc (thrH d L) ↦{fullShare} g))) $$ [Hf]
  case region =>
    intro t u
    exact wp_zero d L (k0_off1 t) (k0_off1_inb t) t.val (k0_off1_eq t)
  · iexists f
    isplitr
    · ipureintro; intro j hj; omega
    iexact Hf
  iintro %_ ⟨%g, %hg, Hf⟩
  obtain rfl := zeroed_eq hg lr du (L 0).val (L 1).val
  ihave Hst := (show iprop(((aLr).view.loc (thrH d L) ↦{qa} lr) ∗ ((aDu).view.loc (thrH d L) ↦{qb} du)
      ∗ ((bHist).view.loc (thrH d L) ↦{fullShare} histUpTo lr du (L 0).val (L 1).val 0)
      ∗ ((bLr).view.loc (thrH d L) ↦{fullShare} x) ∗ ((bDu).view.loc (thrH d L) ↦{fullShare} y) ∗ owes (thrH d L) O W)
      ⊢ (stH d L O W qa qb lr du (histUpTo lr du (L 0).val (L 1).val 0) : sProp 𝕄) from by
    unfold stH bufsH owesN
    iintro ⟨Hlr, Hdu, Hf, Hx, Hy, HO⟩
    isplitl [Hlr]; · iexact Hlr
    isplitl [Hdu]; · iexact Hdu
    isplitl [Hf Hx Hy]
    · iexists x, y
      isplitl [Hf]; · iexact Hf
      isplitl [Hx] <;> iassumption
    iexists W
    isplitr
    · ipureintro; exact fun p hp => .inl hp
    iexact HO) $$ [Hlr Hdu Hf Hx Hy HO]
  · isplitl [Hlr]; · iexact Hlr
    isplitl [Hdu]; · iexact Hdu
    isplitl [Hf]; · iexact Hf
    isplitl [Hx]; · iexact Hx
    isplitl [Hy]; · iexact Hy
    iexact HO
  iapply (wp_chunk_st d L _ (k0_off2_inb L 0) _ _ k0_t2_loop k0_t2_ok rfl _ k0_off3_inb k0_off3_eq 0 (by decide) (k0_off2_eq L 0) _ _ O W qa qb lr du)
  isplitr; · iexact Hmw
  isplitl [Hst]; · iexact Hst
  isplitl [H0]; · iexact H0
  isplitl [H1]; · iexact H1
  iintro ⟨Hst, H0, H1⟩
  iapply (wp_chunk_st d L _ (k0_off2_inb L 1) _ _ k0_t3_loop k0_t3_ok rfl _ k0_off4_inb k0_off4_eq 1 (by decide) (k0_off2_eq L 1) _ _ O W qa qb lr du)
  isplitr; · iexact Hmw
  isplitl [Hst]; · iexact Hst
  isplitl [H2]; · iexact H2
  isplitl [H3]; · iexact H3
  iintro ⟨Hst, H2, H3⟩
  iapply (wp_chunk_st d L _ (k0_off2_inb L 2) _ _ k0_t4_loop k0_t4_ok rfl _ k0_off5_inb k0_off5_eq 2 (by decide) (k0_off2_eq L 2) _ _ O W qa qb lr du)
  isplitr; · iexact Hmw
  isplitl [Hst]; · iexact Hst
  isplitl [H4]; · iexact H4
  isplitl [H5]; · iexact H5
  iintro ⟨Hst, H4, H5⟩
  iapply (wp_chunk_st d L _ (k0_off2_inb L 3) _ _ k0_t5_loop k0_t5_ok rfl _ k0_off6_inb k0_off6_eq 3 (by decide) (k0_off2_eq L 3) _ _ O W qa qb lr du)
  isplitr; · iexact Hmw
  isplitl [Hst]; · iexact Hst
  isplitl [H6]; · iexact H6
  isplitl [H7]; · iexact H7
  iintro ⟨Hst, H6, H7⟩
  iapply (wp_chunk_st d L _ (k0_off2_inb L 4) _ _ k0_t6_loop k0_t6_ok rfl _ k0_off7_inb k0_off7_eq 4 (by decide) (k0_off2_eq L 4) _ _ O W qa qb lr du)
  isplitr; · iexact Hmw
  isplitl [Hst]; · iexact Hst
  isplitl [H8]; · iexact H8
  isplitl [H9]; · iexact H9
  iintro ⟨Hst, H8, H9⟩
  iapply (wp_chunk_st d L _ (k0_off2_inb L 5) _ _ k0_t7_loop k0_t7_ok rfl _ k0_off8_inb k0_off8_eq 5 (by decide) (k0_off2_eq L 5) _ _ O W qa qb lr du)
  isplitr; · iexact Hmw
  isplitl [Hst]; · iexact Hst
  isplitl [H10]; · iexact H10
  isplitl [H11]; · iexact H11
  iintro ⟨Hst, H10, H11⟩
  iapply (wp_chunk_st d L _ (k0_off2_inb L 6) _ _ k0_t8_loop k0_t8_ok rfl _ k0_off9_inb k0_off9_eq 6 (by decide) (k0_off2_eq L 6) _ _ O W qa qb lr du)
  isplitr; · iexact Hmw
  isplitl [Hst]; · iexact Hst
  isplitl [H12]; · iexact H12
  isplitl [H13]; · iexact H13
  iintro ⟨Hst, H12, H13⟩
  iapply (wp_chunk_st d L _ (k0_off2_inb L 7) _ _ k0_t9_loop k0_t9_ok rfl _ k0_off10_inb k0_off10_eq 7 (by decide) (k0_off2_eq L 7) _ _ O W qa qb lr du)
  isplitr; · iexact Hmw
  isplitl [Hst]; · iexact Hst
  isplitl [H14]; · iexact H14
  isplitl [H15]; · iexact H15
  iintro ⟨Hst, H14, H15⟩
  iapply (wp_wand frame _ _) $$ [Hst H16 Hrow]
  · iapply (wp_out d L O W qa qb lr du f0)
    isplitr; · iexact Hmw
    isplitl [Hst]; · iexact Hst
    isplitl [H16] <;> iassumption
  iintro %_ ⟨Hst, H16, Hrow⟩
  isplitl [Hst]; · iexact Hst
  isplitr [Hrow]
  · iframe H0 H1 H2 H3 H4 H5 H6 H7 H8 H9 H10 H11 H12 H13 H14 H15 H16
  iexact Hrow

end Trip

end Cert.Proof.KI

end
-- ==== Proof.IGather.lean ====
/-
  The gather kernel on one tile: the row of suffix sums comes in whole, the tile's 32768 durations in eight chunks; every
  trip looks up sixteen buckets, and each chunk's values go out to their place.
-/
module

public import proofs.«01_k».proof.Proof.IHist
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

section Gather

variable [FloatOps F]

/-- Core and subcore of the tile with grid coordinates `L`. -/
abbrev cG (L : grid2.Coords) : Fin τ.nSC := (L 0).castLE hcore2
abbrev jG (L : grid2.Coords) : Fin τ.nSub := (L 1).castLE hsub2
abbrev thrG (d : Dev nD) (L : grid2.Coords) : Thread nD τ := V d (cG L) (jG L)

abbrev bSu : Memref sig .scVector .vmem S32768 .f32 := Memref.whole cc2_scratch0
abbrev bDg : Memref sig .scVector .vmem S4096 .f32 := Memref.whole cc2_scratch1
abbrev bGa : Memref sig .scVector .vmem S4096 .f32 := Memref.whole cc2_scratch2
abbrev aSu : Memref sig .scVector .hbm S32768 .f32 := Memref.whole main_v7_scv
abbrev aGa : Memref sig .scVector .hbm S1048576 .f32 := Memref.whole main_v8_scv

/-- One trip of the chunk loop, at the offsets `off` and `off'` into the chunk. -/
def gtripProg (L : grid2.Coords) (off off' : Fin 1 → ℕ) (hoff : ∀ a, off a + S16.size a ≤ S4096.size a)
    (hoff' : ∀ a, off' a + S16.size a ≤ S4096.size a) :
    Prog (TpuEff nD τ sig (Elt F) Λ₀ (.scVector (cG L) (jG L))) Unit := do
  let v21 : Vec F S16 .f32 ← Prog.lift (.load bDg (Rect.unit (s := S4096) off S16.size hoff).toLoadRect (View.loadsAt_vmem h_S16))
  have v28 : IVec S16 32 := k2_pay1 v21
  have k2_hw1 : k2_chk1 v28 := (← Prog.lift (TpuEff.assume (k2_chk1 v28) (k2_chk1.dec v28))).down
  let v29 : Vec F S16 .f32 ← SparseCore.vectorLoadIdx bSu ![v28] (k2_idx1_inb v28 k2_hw1) (View.loads_vmem h_S32768)
  let _v31 : Vec F S16 .f32 ← Prog.lift (.load bGa (Rect.unit (s := S4096) off' S16.size hoff').toLoadRect (View.loadsAt_vmem h_S16))
  Prog.lift (.store bGa (Rect.unit (s := S4096) off' S16.size hoff') v29 Finset.univ (View.stores_vmem_bits_univ h_S16 rfl) (.inl rfl))
  pure ⟨⟩

theorem read_dg (off : Fin 1 → ℕ) (hoff : ∀ a, off a + S16.size a ≤ S4096.size a) (t : ℕ) (e : off = ![16 * t]) (x : Vec F S4096 .f32) :
    (bDg).view.readAt (Elt F) (Rect.unit (s := S4096) off S16.size hoff).toLoadRect x = lanes x t := by
  funext j
  simp only [View.readAt_apply, Memref.view_whole, View.read_whole]
  rw [ix_lanes off hoff t e]; rfl

variable (d : Dev nD) (L : grid2.Coords)

theorem pts_bSu_whole (f : Buf (Elt F) ((bSu).view.loc (thrG d L))) :
    (((bSu).access (.whole S32768)).loc (thrG d L) ↦[Finset.univ]{fullShare} f : sProp 𝕄)
      = ((bSu).view.loc (thrG d L) ↦{fullShare} f) := rfl

/-- The first `16 t` entries of the chunk's result are right. -/
def goneUpTo (s : Vec F S32768 .f32) (x : Vec F S4096 .f32) (t : ℕ) (g : Vec F S4096 .f32) : Prop :=
  ∀ j : S4096.Idx, (j 0).val < 16 * t → g j = gatC s x j

theorem gone_write (off : Fin 1 → ℕ) (hoff : ∀ a, off a + S16.size a ≤ S4096.size a) (t : ℕ) (e : off = ![16 * t])
    (s : Vec F S32768 .f32) (x g : Vec F S4096 .f32) (hg : goneUpTo s x t g)
    (h : ∀ a y, ((![k2_pay1 (lanes x t)] : Fin 1 → IVec S16 32) a y).toNat < S32768.size a) :
    goneUpTo s x (t + 1) (((bGa).access (Rect.unit (s := S4096) off S16.size hoff)).write (Elt F) g
      (loadIdx s ![k2_pay1 (lanes x t)] h) Finset.univ) := by
  intro j hj
  have hw := View.write_whole_slice_unit (Val := Elt F) (cc2_scratch2 : Ref sig .scVector) off S16.size hoff g (loadIdx s ![k2_pay1 (lanes x t)] h)
  refine (congrFun hw j).trans ?_
  have e0 : off 0 = 16 * t := by rw [e]; rfl
  have hjl : (j 0).val < 4096 := (j 0).isLt
  unfold updateSlice
  split
  · next hin =>
    have h0 : off 0 ≤ (j 0).val := (hin 0).1
    refine congrArg s (a₂ := bucketIx (x j)) ?_
    funext a; apply Fin.ext
    obtain rfl : a = (0 : Fin 1) := Subsingleton.elim (α := Fin 1) _ _
    show (bucketW (x (ixC (16 * t + ((j 0).val - off 0))))).toNat = (bucketW (x j)).toNat
    refine congrArg (fun i => (bucketW (x i)).toNat) ?_
    funext a; apply Fin.ext
    obtain rfl : a = (0 : Fin 1) := Subsingleton.elim (α := Fin 1) _ _
    show (16 * t + ((j 0).val - off 0)) % 4096 = (j 0).val
    rw [Nat.mod_eq_of_lt (by omega)]; omega
  · next hout =>
    refine hg j ?_
    by_contra hlt
    refine hout fun a => ?_
    obtain rfl : a = (0 : Fin 1) := Subsingleton.elim (α := Fin 1) _ _
    show off 0 ≤ (j 0).val ∧ (j 0).val < off 0 + 16
    omega

/-- One trip of the chunk loop: sixteen more entries of the chunk's result. -/
theorem wp_gtrip (off off' : Fin 1 → ℕ) (hoff : ∀ a, off a + S16.size a ≤ S4096.size a) (hoff' : ∀ a, off' a + S16.size a ≤ S4096.size a)
    (t : ℕ) (e : off = ![16 * t]) (e' : off' = ![16 * t]) (s : Vec F S32768 .f32) (x : Vec F S4096 .f32) :
    iprop(((bSu).view.loc (thrG d L) ↦{fullShare} s) ∗ ((bDg).view.loc (thrG d L) ↦{fullShare} x)
        ∗ ∃ g, ⌜goneUpTo s x t g⌝ ∗ ((bGa).view.loc (thrG d L) ↦{fullShare} g))
      ⊢ wp frame (wpE (defs₀ (F := F)) 𝒱₀ (thrG d L) none) Set.univ (gtripProg L off off' hoff hoff')
        fun _ => (iprop(((bSu).view.loc (thrG d L) ↦{fullShare} s) ∗ ((bDg).view.loc (thrG d L) ↦{fullShare} x)
          ∗ ∃ g, ⌜goneUpTo s x (t + 1) g⌝ ∗ ((bGa).view.loc (thrG d L) ↦{fullShare} g)) : sProp 𝕄) := by
  unfold gtripProg
  simp only [Prog.lift, Prog.bind_op, Prog.bind_ret, Prog.pure_eq_ret]
  iintro ⟨Hs, Hx, %g, %hg, Hg⟩
  iapply (wp_load 𝒱₀ (thrG d L) none Set.univ (m := bDg) (S := Finset.univ) (Finset.subset_univ _)) $$ Hx; iintro Hx
  rw [read_dg off hoff t e]
  rw [wp_assume_of _ _ _ _ (bucket_lt' _)]
  ihave Hs' := (Entails.of_eq (pts_bSu_whole (F := F) d L _).symm) $$ Hs
  iapply (SparseCore.wp_vectorLoadIdx 𝒱₀ (thrG d L) none Set.univ (base := bSu) (Finset.subset_univ _)) $$ Hs'; iintro Hs
  rw [show ((bSu).access (.whole S32768)).read (Elt F) s = s from Memref.read_access_whole (Elt F) cc2_scratch0 s]
  iapply (wp_load 𝒱₀ (thrG d L) none Set.univ (m := bGa) (S := Finset.univ) (Finset.subset_univ _)) $$ Hg; iintro Hg
  iapply (wp_store 𝒱₀ (thrG d L) none Set.univ (m := bGa) (r := Rect.unit (s := S4096) off' S16.size hoff') (Mk := Finset.univ) (S := Finset.univ) (Finset.subset_univ _)) $$ Hg; iintro Hg
  rw [wp_ret]; imodintro
  isplitl [Hs]; · iexact Hs
  isplitl [Hx]; · iexact Hx
  iexists (((bGa).access (Rect.unit (s := S4096) off' S16.size hoff')).write (Elt F) g
    (loadIdx s ![k2_pay1 (lanes x t)] (k2_idx1_inb _ (bucket_lt' (lanes x t)))) Finset.univ)
  isplitr
  · ipureintro; exact gone_write off' hoff' t e' s x g hg _
  iexact Hg

/-! ## A chunk -/

/-- A chunk's slice of a padded array, as the program spells it. -/
abbrev gslab (L : grid2.Coords) (o : BitVec 32) (h : ∀ a, k2_off1 L o a + S4096.size a ≤ S1048576.size a)
    (a : Memref sig .scVector .hbm S1048576 .f32) : Memref sig .scVector .hbm S4096 .f32 :=
  a.slice (Rect.unit (s := S1048576) (k2_off1 L o) S4096.size h) (fun _ => rfl)

/-- A chunk's fetch, its loop and its write-out, then `k`. -/
def gchunkProg (L : grid2.Coords) (o : BitVec 32) (h : ∀ a, k2_off1 L o a + S4096.size a ≤ S1048576.size a) (sa sb : DmaSem sig)
    (lp : Scf.Loop 32) (ok : lp.OK) (body : Fin lp.trips → Unit → Prog (TpuEff nD τ sig (Elt F) Λ₀ (.scVector (cG L) (jG L))) Unit)
    {α : Type} (k : Unit → Prog (TpuEff nD τ sig (Elt F) Λ₀ (.scVector (cG L) (jG L))) α) :
    Prog (TpuEff nD τ sig (Elt F) Λ₀ (.scVector (cG L) (jG L))) α := do
  Prog.lift (.enqueueDma (gslab L o h aDu) (.here bDg) (.dma sa) (View.wordExact_bits rfl) (Memref.isWhole_whole cc2_scratch1).wordExact ⟨Or.inl rfl, trivial⟩)
  Prog.lift (.waitDma2 sa (gslab L o h aDu) bDg (View.wordExact_bits rfl) (Memref.isWhole_whole cc2_scratch1).wordExact)
  let u ← Scf.Loop.for lp ok ⟨⟩ body
  Prog.lift (.enqueueDma bGa (.here (gslab L o h aGa)) (.dma sb) (Memref.isWhole_whole cc2_scratch2).wordExact (View.wordExact_bits rfl) ⟨Or.inl rfl, trivial⟩)
  Prog.lift (.waitDma2 sb bGa (gslab L o h aGa) (Memref.isWhole_whole cc2_scratch2).wordExact (View.wordExact_bits rfl))
  k u

/-- The row's fetch, then `k`. -/
def growProg (L : grid2.Coords) {α : Type} (k : Prog (TpuEff nD τ sig (Elt F) Λ₀ (.scVector (cG L) (jG L))) α) :
    Prog (TpuEff nD τ sig (Elt F) Λ₀ (.scVector (cG L) (jG L))) α := do
  Prog.lift (.enqueueDma aSu (.here bSu) (.dma cc2_scoped0.sem) (Memref.isWhole_whole main_v7_scv).wordExact (Memref.isWhole_whole cc2_scratch0).wordExact ⟨Or.inl rfl, trivial⟩)
  Prog.lift (.waitDma2 cc2_scoped0.sem aSu bSu (Memref.isWhole_whole main_v7_scv).wordExact (Memref.isWhole_whole cc2_scratch0).wordExact)
  k

set_option maxRecDepth 65536 in
/-- The kernel is the row's fetch and eight chunks. -/
theorem gather_chain (L : grid2.Coords) :
    cc2_gather_kernel (F := F) L aDu (Memref.isWhole_whole _) aSu (Memref.isWhole_whole _) aGa (Memref.isWhole_whole _) bSu (Memref.isWhole_whole _)
        bDg (Memref.isWhole_whole _) bGa (Memref.isWhole_whole _) cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16
      = growProg L (
    gchunkProg L 0#32 (k2_off1_inb L 0) cc2_scoped1.sem cc2_scoped2.sem k2_t1_loop k2_t1_ok (fun t _ => gtripProg L (k2_off2 t) (k2_off3 t) (k2_off2_inb t) (k2_off3_inb t)) fun _ =>
    gchunkProg L 4096#32 (k2_off1_inb L 1) cc2_scoped3.sem cc2_scoped4.sem k2_t2_loop k2_t2_ok (fun t _ => gtripProg L (k2_off4 t) (k2_off5 t) (k2_off4_inb t) (k2_off5_inb t)) fun _ =>
    gchunkProg L 8192#32 (k2_off1_inb L 2) cc2_scoped5.sem cc2_scoped6.sem k2_t3_loop k2_t3_ok (fun t _ => gtripProg L (k2_off6 t) (k2_off7 t) (k2_off6_inb t) (k2_off7_inb t)) fun _ =>
    gchunkProg L 12288#32 (k2_off1_inb L 3) cc2_scoped7.sem cc2_scoped8.sem k2_t4_loop k2_t4_ok (fun t _ => gtripProg L (k2_off8 t) (k2_off9 t) (k2_off8_inb t) (k2_off9_inb t)) fun _ =>
    gchunkProg L 16384#32 (k2_off1_inb L 4) cc2_scoped9.sem cc2_scoped10.sem k2_t5_loop k2_t5_ok (fun t _ => gtripProg L (k2_off10 t) (k2_off11 t) (k2_off10_inb t) (k2_off11_inb t)) fun _ =>
    gchunkProg L 20480#32 (k2_off1_inb L 5) cc2_scoped11.sem cc2_scoped12.sem k2_t6_loop k2_t6_ok (fun t _ => gtripProg L (k2_off12 t) (k2_off13 t) (k2_off12_inb t) (k2_off13_inb t)) fun _ =>
    gchunkProg L 24576#32 (k2_off1_inb L 6) cc2_scoped13.sem cc2_scoped14.sem k2_t7_loop k2_t7_ok (fun t _ => gtripProg L (k2_off14 t) (k2_off15 t) (k2_off14_inb t) (k2_off15_inb t)) fun _ =>
    gchunkProg L 28672#32 (k2_off1_inb L 7) cc2_scoped15.sem cc2_scoped16.sem k2_t8_loop k2_t8_ok (fun t _ => gtripProg L (k2_off16 t) (k2_off17 t) (k2_off16_inb t) (k2_off17_inb t)) fun _ =>
    pure ⟨⟩) := by
  simp only [cc2_gather_kernel_eq_skeleton, cc2_gather_kernel_skel, k2_part1_eq_skeleton, k2_part1_skel, k2_part2_eq_skeleton, k2_part2_skel]
  unfold growProg gchunkProg
  simp only [bind_assoc, Prog.lift, Prog.bind_op, Prog.bind_ret, Prog.pure_eq_ret]
  rfl

theorem read_gslab (L : grid2.Coords) (o : BitVec 32) (h : ∀ a, k2_off1 L o a + S4096.size a ≤ S1048576.size a) (r : ℕ) (hr : r < 8)
    (e : k2_off1 L o = ![65536 * (L 1).val + 32768 * (L 0).val + 4096 * r]) (x : Vec F S1048576 .f32) :
    (gslab L o h aDu).view.read (Elt F) x = chunk x (L 0).val (L 1).val r := by
  funext j
  rw [View.read_apply]
  refine congrArg x ?_
  funext a; apply Fin.ext
  obtain rfl : a = (0 : Fin 1) := Subsingleton.elim (α := Fin 1) _ _
  have e0 : k2_off1 L o 0 = 65536 * (L 1).val + 32768 * (L 0).val + 4096 * r := by rw [e]; rfl
  show (k2_off1 L o) 0 + 1 * (j 0).val = (tileBase (L 0).val (L 1).val + 4096 * r + (j 0).val) % 1048576
  have h0 : (L 0).val < 2 := (L 0).isLt
  have h1 : (L 1).val < 16 := (L 1).isLt
  have hj : (j 0).val < 4096 := (j 0).isLt
  unfold tileBase
  rw [Nat.mod_eq_of_lt (by omega)]
  omega

/-- The entries of the gather's result that tile `(c, s)` writes; -/
def gaTile (c s : ℕ) : Finset S1048576.Idx := Finset.univ.filter fun j => tileBase c s ≤ (j 0).val ∧ (j 0).val < tileBase c s + 32768
/-- and chunk `r` of them. -/
def gaPart (c s r : ℕ) : Finset S1048576.Idx :=
  Finset.univ.filter fun j => tileBase c s + 4096 * r ≤ (j 0).val ∧ (j 0).val < tileBase c s + 4096 * r + 4096

theorem mem_gaPart {c s r : ℕ} {j : S1048576.Idx} :
    j ∈ gaPart c s r ↔ tileBase c s + 4096 * r ≤ (j 0).val ∧ (j 0).val < tileBase c s + 4096 * r + 4096 := by simp [gaPart]
theorem mem_gaTile {c s : ℕ} {j : S1048576.Idx} :
    j ∈ gaTile c s ↔ tileBase c s ≤ (j 0).val ∧ (j 0).val < tileBase c s + 32768 := by simp [gaTile]

theorem gaPart_subset {c s r : ℕ} (hr : r < 8) : gaPart c s r ⊆ gaTile c s := by
  intro j hj
  rw [mem_gaPart] at hj; rw [mem_gaTile]; omega

theorem gslab_set (o : BitVec 32) (h : ∀ a, k2_off1 L o a + S4096.size a ≤ S1048576.size a) (r : ℕ)
    (e : k2_off1 L o = ![65536 * (L 1).val + 32768 * (L 0).val + 4096 * r]) :
    (gslab L o h aGa).view.set = gaPart (L 0).val (L 1).val r := by
  show ((View.whole main_v8_scv).slice (Rect.unit (s := S1048576) (k2_off1 L o) S4096.size h)).set = _
  rw [View.set_slice_whole]
  ext j
  rw [Rect.mem_set_unit, mem_gaPart]
  have e0 : k2_off1 L o 0 = tileBase (L 0).val (L 1).val + 4096 * r := by rw [e]; rfl
  constructor
  · intro h
    have h0 : k2_off1 L o 0 ≤ (j 0).val ∧ (j 0).val < k2_off1 L o 0 + 4096 := h 0
    omega
  · intro h a
    obtain rfl : a = (0 : Fin 1) := Subsingleton.elim (α := Fin 1) _ _
    show k2_off1 L o 0 ≤ (j 0).val ∧ (j 0).val < k2_off1 L o 0 + 4096
    omega

/-- The chunk, once written out, holds its entries of the result. -/
theorem gslab_write (o : BitVec 32) (h : ∀ a, k2_off1 L o a + S4096.size a ≤ S1048576.size a) (r : ℕ)
    (e : k2_off1 L o = ![65536 * (L 1).val + 32768 * (L 0).val + 4096 * r])
    (f0 : Vec F S1048576 .f32) (s : Vec F S32768 .f32) (du : Vec F S1048576 .f32) :
    ∀ j ∈ gaPart (L 0).val (L 1).val r,
      (gslab L o h aGa).view.write (Elt F) f0 (gatC s (chunk du (L 0).val (L 1).val r)) Finset.univ j = gat s du j := by
  intro j hj
  rw [mem_gaPart] at hj
  have hjl : (j 0).val < 1048576 := (j 0).isLt
  have e0 : k2_off1 L o 0 = tileBase (L 0).val (L 1).val + 4096 * r := by rw [e]; rfl
  have hw := View.write_whole_slice_unit (Val := Elt F) (main_v8_scv : Ref sig .scVector) (k2_off1 L o) S4096.size h f0 (gatC s (chunk du (L 0).val (L 1).val r))
  refine (congrFun hw j).trans ?_
  unfold updateSlice
  split
  · show s (bucketIx (du (ixN (tileBase (L 0).val (L 1).val + 4096 * r + ((j 0).val - k2_off1 L o 0))))) = s (bucketIx (du j))
    refine congrArg (fun i => s (bucketIx (du i))) ?_
    funext a; apply Fin.ext
    obtain rfl : a = (0 : Fin 1) := Subsingleton.elim (α := Fin 1) _ _
    show (tileBase (L 0).val (L 1).val + 4096 * r + ((j 0).val - k2_off1 L o 0)) % 1048576 = (j 0).val
    rw [Nat.mod_eq_of_lt (by omega)]; omega
  · next hout =>
    refine absurd (fun a => ?_) hout
    obtain rfl : a = (0 : Fin 1) := Subsingleton.elim (α := Fin 1) _ _
    show k2_off1 L o 0 ≤ (j 0).val ∧ (j 0).val < k2_off1 L o 0 + 4096
    omega

/-- The tile's entries before chunk `r` are right. -/
def outUpTo (s : Vec F S32768 .f32) (du : Vec F S1048576 .f32) (c t r : ℕ) (f : Vec F S1048576 .f32) : Prop :=
  ∀ j ∈ gaTile c t, (j 0).val < tileBase c t + 4096 * r → f j = gat s du j

open Classical in
/-- Chunk `r` put in place makes one more chunk right. -/
theorem out_step {s : Vec F S32768 .f32} {du f : Vec F S1048576 .f32} {c t r : ℕ} (_hr : r < 8) (hf : outUpTo s du c t r f) :
    outUpTo s du c t (r + 1) ((gaPart c t r).piecewise (gat s du) f) := by
  intro j hj hlt
  by_cases hp : j ∈ gaPart c t r
  · rw [Finset.piecewise_eq_of_mem _ _ _ hp]
  · rw [Finset.piecewise_eq_of_notMem _ _ _ hp]
    rw [mem_gaPart] at hp
    exact hf j hj (by omega)

/-- What the tile holds between chunks, `r` of them done. -/
def stG (O : CellTallies nD τ sig (HIx 2)) (W : Waits sig (HIx 2)) (qa qb : PosShare TreeShare) (du : Vec F S1048576 .f32)
    (s : Vec F S32768 .f32) (r : ℕ) : sProp 𝕄 :=
  iprop(((aDu).view.loc (thrG d L) ↦{qa} du) ∗ ((aSu).view.loc (thrG d L) ↦{qb} s)
    ∗ ((bSu).view.loc (thrG d L) ↦{fullShare} s)
    ∗ (∃ x, (bDg).view.loc (thrG d L) ↦{fullShare} x) ∗ (∃ g, (bGa).view.loc (thrG d L) ↦{fullShare} g)
    ∗ (∃ f, ⌜outUpTo s du (L 0).val (L 1).val r f⌝ ∗ ((aGa).view.loc (thrG d L) ↦[gaTile (L 0).val (L 1).val]{fullShare} f))
    ∗ owesN (thrG d L) O W)

open Classical in
theorem out_join (r : ℕ) (hr : r < 8) (g f : Vec F S1048576 .f32) :
    iprop(((aGa).view.loc (thrG d L) ↦[gaPart (L 0).val (L 1).val r]{fullShare} g)
        ∗ ((aGa).view.loc (thrG d L) ↦[gaTile (L 0).val (L 1).val \ gaPart (L 0).val (L 1).val r]{fullShare} f))
      ⊢ ((aGa).view.loc (thrG d L) ↦[gaTile (L 0).val (L 1).val]{fullShare} (gaPart (L 0).val (L 1).val r).piecewise g f : sProp 𝕄) := by
  exact (pointsTo_join_subset (ℓ := (aGa).view.loc (thrG d L)) (I := gaPart (L 0).val (L 1).val r) (S := gaTile (L 0).val (L 1).val)
    (g := g) (f := f) (gaPart_subset hr))

/-- One chunk, from state to state. -/
theorem wp_gchunk (o : BitVec 32) (h : ∀ a, k2_off1 L o a + S4096.size a ≤ S1048576.size a) (sa sb : DmaSem sig)
    (lp : Scf.Loop 32) (ok : lp.OK) (htr : lp.trips = 256) (off off' : Fin lp.trips → Fin 1 → ℕ)
    (hoff : ∀ t a, off t a + S16.size a ≤ S4096.size a) (hoff' : ∀ t a, off' t a + S16.size a ≤ S4096.size a)
    (eoff : ∀ t, off t = ![16 * t.val]) (eoff' : ∀ t, off' t = ![16 * t.val])
    (r : ℕ) (hr : r < 8) (e : k2_off1 L o = ![65536 * (L 1).val + 32768 * (L 0).val + 4096 * r])
    {α : Type} (k : Unit → Prog (TpuEff nD τ sig (Elt F) Λ₀ (.scVector (cG L) (jG L))) α) (Q : α → sProp 𝕄)
    (O : CellTallies nD τ sig (HIx 2)) (W : Waits sig (HIx 2)) (qa qb : PosShare TreeShare) (du : Vec F S1048576 .f32) (s : Vec F S32768 .f32) :
    iprop(Transfers.MayWaits (thrG d L) (none : HIx 2) O ∗ stG d L O W qa qb du s r
        ∗ semVal (thrG d L, SemLoc.dma sa) 0 ∗ semVal (thrG d L, SemLoc.dma sb) 0
        ∗ ((stG d L O W qa qb du s (r + 1)
            ∗ semVal (thrG d L, SemLoc.dma sa) 0 ∗ semVal (thrG d L, SemLoc.dma sb) 0)
          -∗ wp frame (wpE (defs₀ (F := F)) 𝒱₀ (thrG d L) none) Set.univ (k ⟨⟩) Q))
      ⊢ wp frame (wpE (defs₀ (F := F)) 𝒱₀ (thrG d L) none) Set.univ
          (gchunkProg L o h sa sb lp ok (fun t _ => gtripProg L (off t) (off' t) (hoff t) (hoff' t)) k) Q := by
  unfold stG owesN gchunkProg
  iintro ⟨#Hmw, ⟨Hdu, Hsu, Hs, ⟨%x, Hx⟩, ⟨%g, Hg⟩, ⟨%f, %hf, Hout⟩, %W', %hW, HO⟩, Hsa, Hsb, Hk⟩
  sl_exec
  sl_for (fun (t : ℕ) (_ : Unit) => iprop(((bSu).view.loc (thrG d L) ↦{fullShare} s)
      ∗ ((bDg).view.loc (thrG d L) ↦{fullShare} chunk du (L 0).val (L 1).val r)
      ∗ ∃ g, ⌜goneUpTo s (chunk du (L 0).val (L 1).val r) t g⌝ ∗ ((bGa).view.loc (thrG d L) ↦{fullShare} g))) $$ [Hs Hx Hg]
  case region =>
    intro t u
    exact wp_gtrip d L (off t) (off' t) (hoff t) (hoff' t) t.val (eoff t) (eoff' t) s _
  · rw [show View.write (Elt F) bDg.view x (wp_gchunk.sl.dma0 L o h du) Finset.univ = chunk du (L 0).val (L 1).val r from
        (View.write_whole_univ cc2_scratch1 x _).trans (read_gslab L o h r hr e du)]
    isplitl [Hs]; · iexact Hs
    isplitl [Hx]; · iexact Hx
    iexists g
    isplitr
    · ipureintro; intro j hj; omega
    iexact Hg
  iintro %_ ⟨Hs, Hx, %g', %hg', Hg⟩
  obtain rfl : g' = gatC s (chunk du (L 0).val (L 1).val r) := by
    funext j
    have hj : (j 0).val < 4096 := (j 0).isLt
    refine hg' j ?_
    rw [show Scf.trips lp.lb lp.ub lp.st = 256 from htr]; omega
  ihave Hsp := (pointsTo_split_subset (gaPart_subset (c := (L 0).val) (s := (L 1).val) hr)).1 $$ Hout
  icases Hsp with ⟨Hpart, Hrest⟩
  ihave Hpart' := (show ((aGa).view.loc (thrG d L) ↦[gaPart (L 0).val (L 1).val r]{fullShare} f : sProp 𝕄)
      ⊢ ((gslab L o h aGa).view.loc (thrG d L) ↦[(gslab L o h aGa).view.set]{fullShare} f) from by rw [gslab_set L o h r e]) $$ Hpart
  sl_exec
  rw [show (gslab L o h aGa).view.writes (Elt F) f [⟨Rect.whole S4096, wp_gchunk.sl.dma0_1 L r du s⟩]
      = (gslab L o h aGa).view.write (Elt F) f (gatC s (chunk du (L 0).val (L 1).val r)) Finset.univ from
    (View.write_univ_eq_writes_whole (Val := Elt F) (gslab L o h aGa).view f [] _).symm]
  ihave Hpart := (show ((gslab L o h aGa).view.loc (thrG d L) ↦[(gslab L o h aGa).view.set]{fullShare}
        (gslab L o h aGa).view.write (Elt F) f (gatC s (chunk du (L 0).val (L 1).val r)) Finset.univ : sProp 𝕄)
      ⊢ ((aGa).view.loc (thrG d L) ↦[gaPart (L 0).val (L 1).val r]{fullShare} gat s du) from by
    rw [gslab_set L o h r e]
    exact Entails.of_eq (pointsTo_congr (gslab_write L o h r e f s du))) $$ Hpart'
  ihave Hout := (out_join d L r hr (gat s du) f) $$ [Hpart Hrest]
  · isplitl [Hpart] <;> iassumption
  iapply Hk
  isplitr [Hsa Hsb]
  · isplitl [Hdu]; · iexact Hdu
    isplitl [Hsu]; · iexact Hsu
    isplitl [Hs]; · iexact Hs
    isplitl [Hx]; · iexists _; iexact Hx
    isplitl [Hg]; · iexists _; iexact Hg
    isplitl [Hout]
    · iexists _
      isplitr
      · ipureintro; exact out_step hr hf
      iexact Hout
    iexists (insert (SemLoc.dma sb, (default : HIx 2)) (insert (SemLoc.dma sa, (default : HIx 2)) W'))
    isplitr
    · ipureintro; exact more_waits (more_waits hW)
    iexact HO
  isplitl [Hsa] <;> iassumption

/-- The tile's semaphores, all at zero. -/
def semsG : sProp 𝕄 :=
  iprop(semVal (thrG d L, SemLoc.dma cc2_scoped0.sem) 0
    ∗ semVal (thrG d L, SemLoc.dma cc2_scoped1.sem) 0
    ∗ semVal (thrG d L, SemLoc.dma cc2_scoped2.sem) 0
    ∗ semVal (thrG d L, SemLoc.dma cc2_scoped3.sem) 0
    ∗ semVal (thrG d L, SemLoc.dma cc2_scoped4.sem) 0
    ∗ semVal (thrG d L, SemLoc.dma cc2_scoped5.sem) 0
    ∗ semVal (thrG d L, SemLoc.dma cc2_scoped6.sem) 0
    ∗ semVal (thrG d L, SemLoc.dma cc2_scoped7.sem) 0
    ∗ semVal (thrG d L, SemLoc.dma cc2_scoped8.sem) 0
    ∗ semVal (thrG d L, SemLoc.dma cc2_scoped9.sem) 0
    ∗ semVal (thrG d L, SemLoc.dma cc2_scoped10.sem) 0
    ∗ semVal (thrG d L, SemLoc.dma cc2_scoped11.sem) 0
    ∗ semVal (thrG d L, SemLoc.dma cc2_scoped12.sem) 0
    ∗ semVal (thrG d L, SemLoc.dma cc2_scoped13.sem) 0
    ∗ semVal (thrG d L, SemLoc.dma cc2_scoped14.sem) 0
    ∗ semVal (thrG d L, SemLoc.dma cc2_scoped15.sem) 0
    ∗ semVal (thrG d L, SemLoc.dma cc2_scoped16.sem) 0)

/-- The row fetched: the tile is at its first chunk. -/
theorem wp_grow {α : Type} (k : Prog (TpuEff nD τ sig (Elt F) Λ₀ (.scVector (cG L) (jG L))) α) (Q : α → sProp 𝕄)
    (O : CellTallies nD τ sig (HIx 2)) (W : Waits sig (HIx 2)) (qa qb : PosShare TreeShare) (du : Vec F S1048576 .f32)
    (s : Vec F S32768 .f32) (f0 : Vec F S1048576 .f32) (s0 : Vec F S32768 .f32) (x g : Vec F S4096 .f32) :
    iprop(Transfers.MayWaits (thrG d L) (none : HIx 2) O
        ∗ ((aDu).view.loc (thrG d L) ↦{qa} du) ∗ ((aSu).view.loc (thrG d L) ↦{qb} s)
        ∗ ((bSu).view.loc (thrG d L) ↦{fullShare} s0) ∗ ((bDg).view.loc (thrG d L) ↦{fullShare} x) ∗ ((bGa).view.loc (thrG d L) ↦{fullShare} g)
        ∗ owes (thrG d L) O W ∗ semVal (thrG d L, SemLoc.dma cc2_scoped0.sem) 0
        ∗ ((aGa).view.loc (thrG d L) ↦[gaTile (L 0).val (L 1).val]{fullShare} f0)
        ∗ ((stG d L O W qa qb du s 0 ∗ semVal (thrG d L, SemLoc.dma cc2_scoped0.sem) 0)
          -∗ wp frame (wpE (defs₀ (F := F)) 𝒱₀ (thrG d L) none) Set.univ k Q))
      ⊢ wp frame (wpE (defs₀ (F := F)) 𝒱₀ (thrG d L) none) Set.univ (growProg L k) Q := by
  unfold growProg stG owesN
  iintro ⟨#Hmw, Hdu, Hsu, Hs, Hx, Hg, HO, H0, Hout, Hk⟩
  sl_exec
  rw [show View.write (Elt F) bSu.view s0 (wp_grow.sl.dma0 s) Finset.univ = s from View.write_whole_univ cc2_scratch0 s0 _]
  iapply Hk
  isplitr [H0]
  · isplitl [Hdu]; · iexact Hdu
    isplitl [Hsu]; · iexact Hsu
    isplitl [Hs]; · iexact Hs
    isplitl [Hx]; · iexists _; iexact Hx
    isplitl [Hg]; · iexists _; iexact Hg
    isplitl [Hout]
    · iexists f0
      isplitr
      · ipureintro; intro j hj hlt; have := mem_gaTile.mp hj; omega
      iexact Hout
    iexists (insert (SemLoc.dma cc2_scoped0.sem, (default : HIx 2)) W)
    isplitr
    · ipureintro; exact more_waits fun p hp => .inl hp
    iexact HO
  iexact H0

/-- The kernel on one tile: from its read shares and its part of the result, that part holding the gathered values. -/
theorem wp_gather (O : CellTallies nD τ sig (HIx 2)) (W : Waits sig (HIx 2)) (qa qb : PosShare TreeShare) (du : Vec F S1048576 .f32)
    (s : Vec F S32768 .f32) (f0 : Vec F S1048576 .f32) (s0 : Vec F S32768 .f32) (x g : Vec F S4096 .f32) :
    iprop(Transfers.MayWaits (thrG d L) (none : HIx 2) O
        ∗ ((aDu).view.loc (thrG d L) ↦{qa} du) ∗ ((aSu).view.loc (thrG d L) ↦{qb} s)
        ∗ ((bSu).view.loc (thrG d L) ↦{fullShare} s0) ∗ ((bDg).view.loc (thrG d L) ↦{fullShare} x) ∗ ((bGa).view.loc (thrG d L) ↦{fullShare} g)
        ∗ owes (thrG d L) O W ∗ semsG d L
        ∗ ((aGa).view.loc (thrG d L) ↦[gaTile (L 0).val (L 1).val]{fullShare} f0))
      ⊢ wp frame (wpE (defs₀ (F := F)) 𝒱₀ (thrG d L) none) Set.univ
          (cc2_gather_kernel (F := F) L aDu (Memref.isWhole_whole _) aSu (Memref.isWhole_whole _) aGa (Memref.isWhole_whole _) bSu (Memref.isWhole_whole _)
            bDg (Memref.isWhole_whole _) bGa (Memref.isWhole_whole _) cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16) fun _ =>
        (iprop(stG d L O W qa qb du s 8 ∗ semsG d L) : sProp 𝕄) := by
  rw [gather_chain]
  unfold semsG
  iintro ⟨#Hmw, Hdu, Hsu, Hs, Hx, Hg, HO, ⟨H0, H1, H2, H3, H4, H5, H6, H7, H8, H9, H10, H11, H12, H13, H14, H15, H16⟩, Hout⟩
  iapply (wp_grow d L _ _ O W qa qb du s f0 s0 x g)
  isplitr; · iexact Hmw
  isplitl [Hdu]; · iexact Hdu
  isplitl [Hsu]; · iexact Hsu
  isplitl [Hs]; · iexact Hs
  isplitl [Hx]; · iexact Hx
  isplitl [Hg]; · iexact Hg
  isplitl [HO]; · iexact HO
  isplitl [H0]; · iexact H0
  isplitl [Hout]; · iexact Hout
  iintro ⟨Hst, H0⟩
  iapply (wp_gchunk d L _ (k2_off1_inb L 0) _ _ k2_t1_loop k2_t1_ok rfl _ _ k2_off2_inb k2_off3_inb k2_off2_eq k2_off3_eq 0 (by decide) (k2_off1_eq L 0) _ _ O W qa qb du s)
  isplitr; · iexact Hmw
  isplitl [Hst]; · iexact Hst
  isplitl [H1]; · iexact H1
  isplitl [H2]; · iexact H2
  iintro ⟨Hst, H1, H2⟩
  iapply (wp_gchunk d L _ (k2_off1_inb L 1) _ _ k2_t2_loop k2_t2_ok rfl _ _ k2_off4_inb k2_off5_inb k2_off4_eq k2_off5_eq 1 (by decide) (k2_off1_eq L 1) _ _ O W qa qb du s)
  isplitr; · iexact Hmw
  isplitl [Hst]; · iexact Hst
  isplitl [H3]; · iexact H3
  isplitl [H4]; · iexact H4
  iintro ⟨Hst, H3, H4⟩
  iapply (wp_gchunk d L _ (k2_off1_inb L 2) _ _ k2_t3_loop k2_t3_ok rfl _ _ k2_off6_inb k2_off7_inb k2_off6_eq k2_off7_eq 2 (by decide) (k2_off1_eq L 2) _ _ O W qa qb du s)
  isplitr; · iexact Hmw
  isplitl [Hst]; · iexact Hst
  isplitl [H5]; · iexact H5
  isplitl [H6]; · iexact H6
  iintro ⟨Hst, H5, H6⟩
  iapply (wp_gchunk d L _ (k2_off1_inb L 3) _ _ k2_t4_loop k2_t4_ok rfl _ _ k2_off8_inb k2_off9_inb k2_off8_eq k2_off9_eq 3 (by decide) (k2_off1_eq L 3) _ _ O W qa qb du s)
  isplitr; · iexact Hmw
  isplitl [Hst]; · iexact Hst
  isplitl [H7]; · iexact H7
  isplitl [H8]; · iexact H8
  iintro ⟨Hst, H7, H8⟩
  iapply (wp_gchunk d L _ (k2_off1_inb L 4) _ _ k2_t5_loop k2_t5_ok rfl _ _ k2_off10_inb k2_off11_inb k2_off10_eq k2_off11_eq 4 (by decide) (k2_off1_eq L 4) _ _ O W qa qb du s)
  isplitr; · iexact Hmw
  isplitl [Hst]; · iexact Hst
  isplitl [H9]; · iexact H9
  isplitl [H10]; · iexact H10
  iintro ⟨Hst, H9, H10⟩
  iapply (wp_gchunk d L _ (k2_off1_inb L 5) _ _ k2_t6_loop k2_t6_ok rfl _ _ k2_off12_inb k2_off13_inb k2_off12_eq k2_off13_eq 5 (by decide) (k2_off1_eq L 5) _ _ O W qa qb du s)
  isplitr; · iexact Hmw
  isplitl [Hst]; · iexact Hst
  isplitl [H11]; · iexact H11
  isplitl [H12]; · iexact H12
  iintro ⟨Hst, H11, H12⟩
  iapply (wp_gchunk d L _ (k2_off1_inb L 6) _ _ k2_t7_loop k2_t7_ok rfl _ _ k2_off14_inb k2_off15_inb k2_off14_eq k2_off15_eq 6 (by decide) (k2_off1_eq L 6) _ _ O W qa qb du s)
  isplitr; · iexact Hmw
  isplitl [Hst]; · iexact Hst
  isplitl [H13]; · iexact H13
  isplitl [H14]; · iexact H14
  iintro ⟨Hst, H13, H14⟩
  iapply (wp_gchunk d L _ (k2_off1_inb L 7) _ _ k2_t8_loop k2_t8_ok rfl _ _ k2_off16_inb k2_off17_inb k2_off16_eq k2_off17_eq 7 (by decide) (k2_off1_eq L 7) _ _ O W qa qb du s)
  isplitr; · iexact Hmw
  isplitl [Hst]; · iexact Hst
  isplitl [H15]; · iexact H15
  isplitl [H16]; · iexact H16
  iintro ⟨Hst, H15, H16⟩
  rw [Prog.pure_eq_ret, wp_ret]; imodintro
  isplitl [Hst]; · iexact Hst
  iframe H0 H1 H2 H3 H4 H5 H6 H7 H8 H9 H10 H11 H12 H13 H14 H15 H16

end Gather

end Cert.Proof.KI

end
-- ==== Proof.ITasks.lean ====
module

public import proofs.«01_k».proof.Proof.IHist
public import proofs.«01_k».proof.Proof.IGather

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 2) (Elt F) ℕ UU ℕ

/-! ## Dealing two arrays to read and one to fill -/

/-- Two arrays held at a share and the part `S` of a third, whatever it holds. -/
def dealIn (a b o : Loc nD τ sig) (q : PosShare TreeShare) (fa : Buf (Elt F) a) (fb : Buf (Elt F) b) (S : Finset (o.2.ty.Idx)) : sProp 𝕄 :=
  iprop((a ↦{q} fa) ∗ (b ↦{q} fb) ∗ ∃ g, o ↦[S]{fullShare} g)

/-- The same with the part holding `g`. -/
def dealOut (a b o : Loc nD τ sig) (q : PosShare TreeShare) (fa : Buf (Elt F) a) (fb : Buf (Elt F) b) (S : Finset (o.2.ty.Idx)) (g : Buf (Elt F) o) : sProp 𝕄 :=
  iprop((a ↦{q} fa) ∗ (b ↦{q} fb) ∗ o ↦[S]{fullShare} g)

instance (a b o : Loc nD τ sig) (q : PosShare TreeShare) (fa : Buf (Elt F) a) (fb : Buf (Elt F) b) (S : Finset (o.2.ty.Idx)) :
    BI.Storable (upEmb : UEmb _ 𝕄) (dealIn a b o q fa fb S) := by unfold dealIn; infer_instance
instance (a b o : Loc nD τ sig) (q : PosShare TreeShare) (fa : Buf (Elt F) a) (fb : Buf (Elt F) b) (S : Finset (o.2.ty.Idx)) (g : Buf (Elt F) o) :
    BI.Storable (upEmb : UEmb _ 𝕄) (dealOut a b o q fa fb S g) := by unfold dealOut; infer_instance

/-- Dealt among `n`, and gathered from them once each has filled its part with its piece of `g`. -/
theorem deal (a b o : Loc nD τ sig) (q : PosShare TreeShare) (fa : Buf (Elt F) a) (fb : Buf (Elt F) b) (g : Buf (Elt F) o) (n : ℕ)
    (Sf : Fin n → Finset (o.2.ty.Idx)) (hd : ∀ i ∈ (Finset.univ : Finset (Fin n)), ∀ j ∈ (Finset.univ : Finset (Fin n)), i ≠ j → Disjoint (Sf i) (Sf j))
    (S : Finset (o.2.ty.Idx)) (hS : Finset.univ.biUnion Sf = S) :
    dealIn a b o q fa fb S ⊢ iprop((bigSep Finset.univ fun i : Fin n => dealIn a b o (Transfers.shareTokN q i.val) fa fb (Sf i))
      ∗ ((bigSep Finset.univ fun i : Fin n => dealOut a b o (Transfers.shareTokN q i.val) fa fb (Sf i) g) -∗ dealOut a b o q fa fb S g)) := by
  unfold dealIn dealOut
  rw [bigSep_sep', bigSep_sep', bigSep_sep', bigSep_sep']
  iintro ⟨Ha, Hb, %f, Ho⟩
  ihave Ha' := (Transfers.pointsTo_toks_split (Ix := HIx 2) (Name := ℕ) (U := UU) (Lvl := ℕ) (f := fa) q n) $$ Ha
  ihave Hb' := (Transfers.pointsTo_toks_split (Ix := HIx 2) (Name := ℕ) (U := UU) (Lvl := ℕ) (f := fb) q n) $$ Hb
  icases Ha' with ⟨Har, Ha⟩
  icases Hb' with ⟨Hbr, Hb⟩
  isplitl [Ha Hb Ho]
  · isplitl [Ha]; · iexact Ha
    isplitl [Hb]; · iexact Hb
    ihave Ho' := (show (o ↦[S]{fullShare} f : sProp 𝕄) ⊢ bigSep Finset.univ fun i : Fin n => iprop(∃ g, o ↦[Sf i]{fullShare} g) by
      rw [← hS, pointsTo_biUnion Finset.univ (ℓ := o) Sf hd]
      exact bigSep_mono fun i _ => exists_intro (Φ := fun g => (o ↦[Sf i]{fullShare} g : sProp 𝕄)) f) $$ Ho
    iexact Ho'
  · iintro ⟨Ha, Hb, Ho⟩
    isplitl [Har Ha]
    · iapply (Transfers.pointsTo_toks_join (Ix := HIx 2) (Name := ℕ) (U := UU) (Lvl := ℕ) (f := fa) q n)
      isplitl [Har]; · iexact Har
      iexact Ha
    isplitl [Hbr Hb]
    · iapply (Transfers.pointsTo_toks_join (Ix := HIx 2) (Name := ℕ) (U := UU) (Lvl := ℕ) (f := fb) q n)
      isplitl [Hbr]; · iexact Hbr
      iexact Hb
    ihave Ho' := (show (bigSep Finset.univ fun i : Fin n => (o ↦[Sf i]{fullShare} g : sProp 𝕄)) ⊢ (o ↦[S]{fullShare} g) by
      rw [← hS, pointsTo_biUnion Finset.univ (ℓ := o) Sf hd]) $$ Ho
    iexact Ho'

/-! ## The payloads of the two calls -/

variable (lr du : Dev nD → Vec F S1048576 .f32) (su : Dev nD → Vec F S32768 .f32)

/-- The rows of the tiles of core `c`. -/
def hiCore (c : ℕ) : Finset S32x32768.Idx := (Finset.univ : Finset (Fin 16)).biUnion fun i => hiRow c i.val
/-- The elements of the tiles of core `c`. -/
def gaCore (c : ℕ) : Finset S1048576.Idx := (Finset.univ : Finset (Fin 16)).biUnion fun i => gaTile c i.val

/-- The first call deals the padded log risks and durations and takes back the histograms; -/
abbrev hIn (d : Dev nD) (q : PosShare TreeShare) (S : Finset S32x32768.Idx) : sProp 𝕄 := dealIn (lrLoc d) (duLoc d) (hiLoc d) q (lr d) (du d) S
abbrev hOut (d : Dev nD) (q : PosShare TreeShare) (S : Finset S32x32768.Idx) : sProp 𝕄 := dealOut (lrLoc d) (duLoc d) (hiLoc d) q (lr d) (du d) S (hist (lr d) (du d))
/-- the second deals the durations and the suffix sums and takes back the gathered sums. -/
abbrev gIn (d : Dev nD) (q : PosShare TreeShare) (S : Finset S1048576.Idx) : sProp 𝕄 := dealIn (duLoc d) (suLoc d) (gaLoc d) q (du d) (su d) S
abbrev gOut (d : Dev nD) (q : PosShare TreeShare) (S : Finset S1048576.Idx) : sProp 𝕄 := dealOut (duLoc d) (suLoc d) (gaLoc d) q (du d) (su d) S (gat (su d) (du d))

/-- Core `c`'s share of what is read, -/
abbrev coreShare (c : ℕ) : PosShare TreeShare := Transfers.shareTokN fullShare c
/-- and subcore `i`'s of that. -/
abbrev tileShare (c i : ℕ) : PosShare TreeShare := Transfers.shareTokN (coreShare c) i

def P : (K (F := F)).Pay (nD := nD) (Val := Elt F) (Name := ℕ) (U := UU) where
  st := fun q d c => match q with
    | ⟨0, _⟩ => hIn lr du d (coreShare c.val) (hiCore c.val)
    | ⟨1, _⟩ => gIn du su d (coreShare c.val) (gaCore c.val)
  dn := fun q d c => match q with
    | ⟨0, _⟩ => hOut lr du d (coreShare c.val) (hiCore c.val)
    | ⟨1, _⟩ => gOut du su d (coreShare c.val) (gaCore c.val)
  go := fun q d c i => match q with
    | ⟨0, _⟩ => hIn lr du d (tileShare c.val i.val) (hiRow c.val i.val)
    | ⟨1, _⟩ => gIn du su d (tileShare c.val i.val) (gaTile c.val i.val)
  td := fun q d c i => match q with
    | ⟨0, _⟩ => hOut lr du d (tileShare c.val i.val) (hiRow c.val i.val)
    | ⟨1, _⟩ => gOut du su d (tileShare c.val i.val) (gaTile c.val i.val)
  x := fun _ _ => iprop(emp)

instance P_storable : (P lr du su).IsStorable where
  st q d c := by match q with | ⟨0, _⟩ => (unfold P; dsimp only; infer_instance) | ⟨1, _⟩ => (unfold P; dsimp only; infer_instance)
  dn q d c := by match q with | ⟨0, _⟩ => (unfold P; dsimp only; infer_instance) | ⟨1, _⟩ => (unfold P; dsimp only; infer_instance)
  go q d c i := by match q with | ⟨0, _⟩ => (unfold P; dsimp only; infer_instance) | ⟨1, _⟩ => (unfold P; dsimp only; infer_instance)
  td q d c i := by match q with | ⟨0, _⟩ => (unfold P; dsimp only; infer_instance) | ⟨1, _⟩ => (unfold P; dsimp only; infer_instance)

/-! ## The splits -/

theorem hiRow_disj (c : ℕ) : ∀ i ∈ (Finset.univ : Finset (Fin 16)), ∀ j ∈ (Finset.univ : Finset (Fin 16)), i ≠ j → Disjoint (hiRow c i.val) (hiRow c j.val) := by
  intro i _ j _ h
  rw [Finset.disjoint_left]
  intro a ha hb
  simp only [hiRow, Finset.mem_filter, Finset.mem_univ, true_and] at ha hb
  exact h (Fin.ext (by omega))

theorem gaTile_disj (c : ℕ) : ∀ i ∈ (Finset.univ : Finset (Fin 16)), ∀ j ∈ (Finset.univ : Finset (Fin 16)), i ≠ j → Disjoint (gaTile c i.val) (gaTile c j.val) := by
  intro i _ j _ h
  rw [Finset.disjoint_left]
  intro a ha hb
  rw [mem_gaTile] at ha hb
  unfold tileBase at ha hb
  exact h (Fin.ext (by omega))

theorem mem_hiCore {c : ℕ} {j : S32x32768.Idx} : Iff (j ∈ hiCore c) (∃ i : Fin 16, (j 0).val = 2 * i.val + c) := by
  simp [hiCore, hiRow]
theorem mem_gaCore {c : ℕ} {j : S1048576.Idx} : Iff (j ∈ gaCore c) (∃ i : Fin 16, tileBase c i.val ≤ (j 0).val ∧ (j 0).val < tileBase c i.val + 32768) := by
  simp [gaCore, mem_gaTile]

theorem hiCore_disj : ∀ i ∈ (Finset.univ : Finset (Fin 2)), ∀ j ∈ (Finset.univ : Finset (Fin 2)), i ≠ j → Disjoint (hiCore i.val) (hiCore j.val) := by
  intro i _ j _ h
  rw [Finset.disjoint_left]
  intro a ha hb
  obtain ⟨p, hp⟩ := mem_hiCore.1 ha
  obtain ⟨r, hr⟩ := mem_hiCore.1 hb
  exact h (Fin.ext (by omega))

theorem gaCore_disj : ∀ i ∈ (Finset.univ : Finset (Fin 2)), ∀ j ∈ (Finset.univ : Finset (Fin 2)), i ≠ j → Disjoint (gaCore i.val) (gaCore j.val) := by
  intro i _ j _ h
  rw [Finset.disjoint_left]
  intro a ha hb
  obtain ⟨p, hp⟩ := mem_gaCore.1 ha
  obtain ⟨r, hr⟩ := mem_gaCore.1 hb
  unfold tileBase at hp hr
  exact h (Fin.ext (by omega))

theorem hiCore_cover : (Finset.univ : Finset (Fin 2)).biUnion (fun c => hiCore c.val) = Finset.univ := by
  ext j
  simp only [Finset.mem_biUnion, Finset.mem_univ, true_and, iff_true]
  have hj : (j 0).val < 32 := (j 0).isLt
  exact ⟨⟨(j 0).val % 2, Nat.mod_lt _ (by decide)⟩, mem_hiCore.2 ⟨⟨(j 0).val / 2, by omega⟩, by show (j 0).val = 2 * ((j 0).val / 2) + (j 0).val % 2; omega⟩⟩

theorem gaCore_cover : (Finset.univ : Finset (Fin 2)).biUnion (fun c => gaCore c.val) = Finset.univ := by
  ext j
  simp only [Finset.mem_biUnion, Finset.mem_univ, true_and, iff_true]
  have hj : (j 0).val < 1048576 := (j 0).isLt
  refine ⟨⟨(j 0).val / 32768 % 2, Nat.mod_lt _ (by decide)⟩, mem_gaCore.2 ⟨⟨(j 0).val / 32768 / 2, by omega⟩, ?_⟩⟩
  show tileBase ((j 0).val / 32768 % 2) ((j 0).val / 32768 / 2) ≤ (j 0).val ∧ (j 0).val < tileBase ((j 0).val / 32768 % 2) ((j 0).val / 32768 / 2) + 32768
  unfold tileBase
  omega

theorem vecSplit0 : (K (F := F)).VecSplit' (P lr du su) 0 := by
  intro d c
  show hIn lr du d (coreShare c.val) (hiCore c.val) ⊢ |={Set.univ}=> iprop(
      (bigSep Finset.univ fun i : Fin 16 => hIn lr du d (tileShare c.val i.val) (hiRow c.val i.val))
      ∗ ((bigSep Finset.univ fun i : Fin 16 => hOut lr du d (tileShare c.val i.val) (hiRow c.val i.val)) -∗ hOut lr du d (coreShare c.val) (hiCore c.val)))
  iintro H; imodintro
  iapply (deal (lrLoc d) (duLoc d) (hiLoc d) (coreShare c.val) (lr d) (du d) (hist (lr d) (du d)) 16 (fun i => hiRow c.val i.val) (hiRow_disj c.val) (hiCore c.val) rfl)
  iexact H

theorem vecSplit1 : (K (F := F)).VecSplit' (P lr du su) 1 := by
  intro d c
  show gIn du su d (coreShare c.val) (gaCore c.val) ⊢ |={Set.univ}=> iprop(
      (bigSep Finset.univ fun i : Fin 16 => gIn du su d (tileShare c.val i.val) (gaTile c.val i.val))
      ∗ ((bigSep Finset.univ fun i : Fin 16 => gOut du su d (tileShare c.val i.val) (gaTile c.val i.val)) -∗ gOut du su d (coreShare c.val) (gaCore c.val)))
  iintro H; imodintro
  iapply (deal (duLoc d) (suLoc d) (gaLoc d) (coreShare c.val) (du d) (su d) (gat (su d) (du d)) 16 (fun i => gaTile c.val i.val) (gaTile_disj c.val) (gaCore c.val) rfl)
  iexact H

/-- The first call's operands, whole, to the two cores, and its results back. -/
theorem call0_deal (d : Dev nD) : hIn lr du d fullShare Finset.univ ⊢ iprop((bigSep Finset.univ fun c : Fin ((K (F := F)).nCore 0) => (P lr du su).st 0 d c)
    ∗ ((bigSep Finset.univ fun c : Fin ((K (F := F)).nCore 0) => (P lr du su).dn 0 d c) -∗ hOut lr du d fullShare Finset.univ)) :=
  deal (lrLoc d) (duLoc d) (hiLoc d) fullShare (lr d) (du d) (hist (lr d) (du d)) 2 (fun c => hiCore c.val) hiCore_disj Finset.univ hiCore_cover

theorem call1_deal (d : Dev nD) : gIn du su d fullShare Finset.univ ⊢ iprop((bigSep Finset.univ fun c : Fin ((K (F := F)).nCore 1) => (P lr du su).st 1 d c)
    ∗ ((bigSep Finset.univ fun c : Fin ((K (F := F)).nCore 1) => (P lr du su).dn 1 d c) -∗ gOut du su d fullShare Finset.univ)) :=
  deal (duLoc d) (suLoc d) (gaLoc d) fullShare (du d) (su d) (gat (su d) (du d)) 2 (fun c => gaCore c.val) gaCore_disj Finset.univ gaCore_cover

end Cert.Proof.KI

end
-- ==== Proof.IBodies.lean ====
/-
  The two calls' tiles: each call's task, from what the launch deals a tile to what it takes back.
-/
module

public import proofs.«01_k».proof.Proof.ITasks

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 2) (Elt F) ℕ UU ℕ

/-! ## Dealing two arrays to read and one to fill -/

variable (lr du : Dev nD → Vec F S1048576 .f32) (su : Dev nD → Vec F S32768 .f32)

/-- What a task ends with, as the launch asks for it. -/
theorem obl_post {thr : Thread nD τ} {A B C : sProp 𝕄} {O : CellTallies nD τ sig (HIx 2)} {W : Waits sig (HIx 2)} {q : Fin 2} :
    iprop(A ∗ B ∗ C ∗ owesN thr O W)
      ⊢ iprop(A ∗ B ∗ C ∗ ∃ W', ⌜∀ p ∈ W', p ∈ W ∨ p.2 = none ∨ p.2 = some q⌝ ∗ owes thr O W') := by
  unfold owesN
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The hist call -/

section hist

variable (d : Dev nD) (L : grid0.Coords)

/-- The tile's other semaphores and buffers, which the task leaves alone. -/
def restSemsH : sProp 𝕄 :=
  bigSep (ownCells (thrH d L) \ (([cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scoped11.sem, cc0_scoped12.sem, cc0_scoped13.sem, cc0_scoped14.sem, cc0_scoped15.sem, cc0_scoped16.sem] : List (DmaSem sig)).map fun s => (thrH d L, (SemLoc.dma s : SemLoc sig))).toFinset) fun g => semVal g 0
def restBufsH : sProp 𝕄 :=
  bigSep (ownRefs (τ := τ) (thrH d L).2 \ (([cc0_scratch0, cc0_scratch1, cc0_scratch2] : List (Ref sig .scVector)).map (Proc.scVector (cH L) (jH L)).devRef).toFinset)
    fun b => iprop(∃ f, ((d, b) : Loc nD τ sig) ↦{fullShare} f)

/-- The tile's semaphores are the seventeen of the task and the others; -/
theorem open_semsH : (scopedSems0 (thrH d L) : sProp 𝕄) = iprop(semsH d L ∗ restSemsH d L) := by
  rw [SparseCore.Cfg.scopedSems0_V (Val := Elt F) d (cH L) (jH L), sems_peel d (cH L) (jH L) [cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scoped11.sem, cc0_scoped12.sem, cc0_scoped13.sem, cc0_scoped14.sem, cc0_scoped15.sem, cc0_scoped16.sem] (by decide) (by decide)]
  rfl

/-- its buffers the three of the task and the others. -/
theorem open_bufsH : (scopedBufs (thrH d L) : sProp 𝕄)
    = iprop(((∃ f, (Memref.whole cc0_scratch0).view.loc (thrH d L) ↦{fullShare} f) ∗ (∃ f, (Memref.whole cc0_scratch1).view.loc (thrH d L) ↦{fullShare} f)
        ∗ (∃ f, (Memref.whole cc0_scratch2).view.loc (thrH d L) ↦{fullShare} f)) ∗ restBufsH d L) := by
  rw [(K (F := F)).scopedBufs_V facts d (cH L) (jH L), bufs_peel d (cH L) (jH L) [cc0_scratch0, cc0_scratch1, cc0_scratch2] (by decide)
    (fun b hb => SparseCore.Cfg.mem_ownRefs_of_owner (by
      simp only [List.mem_cons, List.not_mem_nil, or_false] at hb
      rcases hb with rfl | rfl | rfl <;> rfl))]
  rfl

theorem taskH (O : CellTallies nD τ sig (HIx 2)) (W : Waits sig (HIx 2)) (hO : ∀ g, O g none = 0) :
    iprop(levAts (K (F := F)).L (K (F := F)).lev ∗ emp ∗ hIn lr du d (tileShare (L 0).val (L 1).val) (hiRow (L 0).val (L 1).val)
        ∗ scopedBufs (thrH d L) ∗ scopedSems0 (thrH d L) ∗ owes (thrH d L) O W)
      ⊢ wp frame (wpE (defs₀ (F := F)) 𝒱₀ (thrH d L) none) Set.univ
          (cc0_hist_kernel (F := F) L aLr (Memref.isWhole_whole _) aDu (Memref.isWhole_whole _) aHi (Memref.isWhole_whole _) bHist (Memref.isWhole_whole _)
            bLr (Memref.isWhole_whole _) bDu (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) fun _ =>
        iprop(hOut lr du d (tileShare (L 0).val (L 1).val) (hiRow (L 0).val (L 1).val) ∗ scopedBufs (thrH d L) ∗ scopedSems0 (thrH d L) ∗ owesN (thrH d L) O W) := by
  rw [open_semsH, open_bufsH]
  unfold hIn hOut dealIn dealOut
  iintro ⟨#Hlv, -, ⟨Hlr, Hdu, %f0, Ho⟩, ⟨⟨⟨%f, Hf⟩, ⟨%x, Hx⟩, ⟨%y, Hy⟩⟩, Hrb⟩, ⟨Hs, Hrs⟩, HO⟩
  ihave Hmw := ((K (F := F)).mayWaits_none (thr := thrH d L) hO) $$ Hlv
  iapply (wp_wand frame _ _) $$ [Hmw Hlr Hdu Ho Hf Hx Hy Hs HO]
  · iapply (wp_hist d L O W (tileShare (L 0).val (L 1).val) (tileShare (L 0).val (L 1).val) (lr d) (du d) f0 f x y)
    unfold bufsH
    isplitl [Hmw]; · iexact Hmw
    isplitl [Hlr]; · iexact Hlr
    isplitl [Hdu]; · iexact Hdu
    isplitl [Hf Hx Hy]
    · isplitl [Hf]; · iexact Hf
      isplitl [Hx]; · iexact Hx
      iexact Hy
    isplitl [HO]; · iexact HO
    isplitl [Hs]; · iexact Hs
    iexact Ho
  unfold stH bufsH
  iintro %_ ⟨⟨Hlr, Hdu, ⟨%x', %y', Hf, Hx, Hy⟩, HO⟩, Hs, Ho⟩
  isplitl [Hlr Hdu Ho]
  · isplitl [Hlr]; · iexact Hlr
    isplitl [Hdu]; · iexact Hdu
    iexact Ho
  isplitl [Hf Hx Hy Hrb]
  · isplitl [Hf Hx Hy]
    · isplitl [Hf]; · iexists _; iexact Hf
      isplitl [Hx]; · iexists _; iexact Hx
      iexists _; iexact Hy
    iexact Hrb
  isplitl [Hs Hrs]
  · isplitl [Hs]; · iexact Hs
    iexact Hrs
  iexact HO

end hist

theorem defs₀_hist (c : Fin τ.nSC) (i : Fin τ.nSub) :
    defs₀ (F := F) (.scVector c i) 0 () = SparseCore.onTile hcore0 hsub0 (fun c s => cc0_hist_kernel (fun | 0 => c | 1 => s | ⟨_ + 2, h⟩ => absurd h (Nat.not_lt.2 (Nat.le_add_left _ _))) aLr (Memref.isWhole_whole _) aDu (Memref.isWhole_whole _) aHi (Memref.isWhole_whole _) bHist (Memref.isWhole_whole _)
            bLr (Memref.isWhole_whole _) bDu (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) ⟨⟩ c i := rfl

set_option maxRecDepth 1024 in
theorem tileObl0 : (K (F := F)).TileObl (D (F := F)) 𝒱 (P lr du su) v₀ 0 := by
  intro d c i O W hO _ _
  simp only [show (P lr du su).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_hist]
  simp only [SparseCore.onTile, hc, and_self, ↓reduceDIte]
  exact (taskH lr du d (fun | 0 => ⟨_, hc.1⟩ | 1 => ⟨_, hc.2⟩ | ⟨_ + 2, h⟩ => absurd h (Nat.not_lt.2 (Nat.le_add_left _ _))) O W hO).trans (wp_mono frame _ _ fun _ => obl_post)

/-! ## The gather call -/

section gather

variable (d : Dev nD) (L : grid2.Coords)

/-- The tile's other semaphores and buffers, which the task leaves alone. -/
def restSemsG : sProp 𝕄 :=
  bigSep (ownCells (thrG d L) \ (([cc2_scoped0.sem, cc2_scoped1.sem, cc2_scoped2.sem, cc2_scoped3.sem, cc2_scoped4.sem, cc2_scoped5.sem, cc2_scoped6.sem, cc2_scoped7.sem, cc2_scoped8.sem, cc2_scoped9.sem, cc2_scoped10.sem, cc2_scoped11.sem, cc2_scoped12.sem, cc2_scoped13.sem, cc2_scoped14.sem, cc2_scoped15.sem, cc2_scoped16.sem] : List (DmaSem sig)).map fun s => (thrG d L, (SemLoc.dma s : SemLoc sig))).toFinset) fun g => semVal g 0
def restBufsG : sProp 𝕄 :=
  bigSep (ownRefs (τ := τ) (thrG d L).2 \ (([cc2_scratch0, cc2_scratch1, cc2_scratch2] : List (Ref sig .scVector)).map (Proc.scVector (cG L) (jG L)).devRef).toFinset)
    fun b => iprop(∃ f, ((d, b) : Loc nD τ sig) ↦{fullShare} f)

/-- The tile's semaphores are the seventeen of the task and the others; -/
theorem open_semsG : (scopedSems0 (thrG d L) : sProp 𝕄) = iprop(semsG d L ∗ restSemsG d L) := by
  rw [SparseCore.Cfg.scopedSems0_V (Val := Elt F) d (cG L) (jG L), sems_peel d (cG L) (jG L) [cc2_scoped0.sem, cc2_scoped1.sem, cc2_scoped2.sem, cc2_scoped3.sem, cc2_scoped4.sem, cc2_scoped5.sem, cc2_scoped6.sem, cc2_scoped7.sem, cc2_scoped8.sem, cc2_scoped9.sem, cc2_scoped10.sem, cc2_scoped11.sem, cc2_scoped12.sem, cc2_scoped13.sem, cc2_scoped14.sem, cc2_scoped15.sem, cc2_scoped16.sem] (by decide) (by decide)]
  rfl

/-- its buffers the three of the task and the others. -/
theorem open_bufsG : (scopedBufs (thrG d L) : sProp 𝕄)
    = iprop(((∃ f, (Memref.whole cc2_scratch0).view.loc (thrG d L) ↦{fullShare} f) ∗ (∃ f, (Memref.whole cc2_scratch1).view.loc (thrG d L) ↦{fullShare} f)
        ∗ (∃ f, (Memref.whole cc2_scratch2).view.loc (thrG d L) ↦{fullShare} f)) ∗ restBufsG d L) := by
  rw [(K (F := F)).scopedBufs_V facts d (cG L) (jG L), bufs_peel d (cG L) (jG L) [cc2_scratch0, cc2_scratch1, cc2_scratch2] (by decide)
    (fun b hb => SparseCore.Cfg.mem_ownRefs_of_owner (by
      simp only [List.mem_cons, List.not_mem_nil, or_false] at hb
      rcases hb with rfl | rfl | rfl <;> rfl))]
  rfl

/-- All eight chunks done, the tile's part of the result is the gathered sums. -/
theorem out_done (du : Vec F S1048576 .f32) (s : Vec F S32768 .f32) (f : Vec F S1048576 .f32) (h : outUpTo s du (L 0).val (L 1).val 8 f) :
    ((aGa).view.loc (thrG d L) ↦[gaTile (L 0).val (L 1).val]{fullShare} f : sProp 𝕄)
      = ((aGa).view.loc (thrG d L) ↦[gaTile (L 0).val (L 1).val]{fullShare} gat s du) :=
  pointsTo_congr (ℓ := (aGa).view.loc (thrG d L)) (f := f) (g := gat s du) fun j hj => h j hj (by have := (mem_gaTile.1 hj).2; omega)

theorem taskG (O : CellTallies nD τ sig (HIx 2)) (W : Waits sig (HIx 2)) (hO : ∀ g, O g none = 0) :
    iprop(levAts (K (F := F)).L (K (F := F)).lev ∗ emp ∗ gIn du su d (tileShare (L 0).val (L 1).val) (gaTile (L 0).val (L 1).val)
        ∗ scopedBufs (thrG d L) ∗ scopedSems0 (thrG d L) ∗ owes (thrG d L) O W)
      ⊢ wp frame (wpE (defs₀ (F := F)) 𝒱₀ (thrG d L) none) Set.univ
          (cc2_gather_kernel (F := F) L aDu (Memref.isWhole_whole _) aSu (Memref.isWhole_whole _) aGa (Memref.isWhole_whole _) bSu (Memref.isWhole_whole _)
            bDg (Memref.isWhole_whole _) bGa (Memref.isWhole_whole _) cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16) fun _ =>
        iprop(gOut du su d (tileShare (L 0).val (L 1).val) (gaTile (L 0).val (L 1).val) ∗ scopedBufs (thrG d L) ∗ scopedSems0 (thrG d L) ∗ owesN (thrG d L) O W) := by
  rw [open_semsG, open_bufsG]
  unfold gIn gOut dealIn dealOut
  iintro ⟨#Hlv, -, ⟨Hdu, Hsu, %f0, Ho⟩, ⟨⟨⟨%s0, Hf⟩, ⟨%x, Hx⟩, ⟨%y, Hy⟩⟩, Hrb⟩, ⟨Hs, Hrs⟩, HO⟩
  ihave Hmw := ((K (F := F)).mayWaits_none (thr := thrG d L) hO) $$ Hlv
  iapply (wp_wand frame _ _) $$ [Hmw Hdu Hsu Ho Hf Hx Hy Hs HO]
  · iapply (wp_gather d L O W (tileShare (L 0).val (L 1).val) (tileShare (L 0).val (L 1).val) (du d) (su d) f0 s0 x y)
    isplitl [Hmw]; · iexact Hmw
    isplitl [Hdu]; · iexact Hdu
    isplitl [Hsu]; · iexact Hsu
    isplitl [Hf]; · iexact Hf
    isplitl [Hx]; · iexact Hx
    isplitl [Hy]; · iexact Hy
    isplitl [HO]; · iexact HO
    isplitl [Hs]; · iexact Hs
    iexact Ho
  unfold stG
  iintro %_ ⟨⟨Hdu, Hsu, Hf, ⟨%x', Hx⟩, ⟨%y', Hy⟩, ⟨%f, %hf, Ho⟩, HO⟩, Hs⟩
  ihave Ho' := (Entails.of_eq (out_done d L (du d) (su d) f hf)) $$ Ho
  isplitl [Hdu Hsu Ho']
  · isplitl [Hdu]; · iexact Hdu
    isplitl [Hsu]; · iexact Hsu
    iexact Ho'
  isplitl [Hf Hx Hy Hrb]
  · isplitl [Hf Hx Hy]
    · isplitl [Hf]; · iexists _; iexact Hf
      isplitl [Hx]; · iexists _; iexact Hx
      iexists _; iexact Hy
    iexact Hrb
  isplitl [Hs Hrs]
  · isplitl [Hs]; · iexact Hs
    iexact Hrs
  iexact HO

end gather

theorem defs₀_gather (c : Fin τ.nSC) (i : Fin τ.nSub) :
    defs₀ (F := F) (.scVector c i) 2 () = SparseCore.onTile hcore2 hsub2 (fun c s => cc2_gather_kernel (fun | 0 => c | 1 => s | ⟨_ + 2, h⟩ => absurd h (Nat.not_lt.2 (Nat.le_add_left _ _))) aDu (Memref.isWhole_whole _) aSu (Memref.isWhole_whole _) aGa (Memref.isWhole_whole _) bSu (Memref.isWhole_whole _)
            bDg (Memref.isWhole_whole _) bGa (Memref.isWhole_whole _) cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16) ⟨⟩ c i := rfl

set_option maxRecDepth 1024 in
theorem tileObl1 : (K (F := F)).TileObl (D (F := F)) 𝒱 (P lr du su) v₀ 1 := by
  intro d c i O W hO _ _
  simp only [show (P lr du su).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_gather]
  simp only [SparseCore.onTile, hc, and_self, ↓reduceDIte]
  exact (taskG du su d (fun | 0 => ⟨_, hc.1⟩ | 1 => ⟨_, hc.2⟩ | ⟨_ + 2, h⟩ => absurd h (Nat.not_lt.2 (Nat.le_add_left _ _))) O W hO).trans (wp_mono frame _ _ fun _ => obl_post)

end Cert.Proof.KI

end
-- ==== Proof.IScan.lean ====
/-
  The suffix sums of the summed histograms (the first TensorCore kernel): what its body leaves.
-/
module

public import proofs.«01_k».proof.Proof.IHist

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 2) (Elt F) ℕ UU ℕ

/-- The 256 rows of a 8192×128 array that begin at row `n` (wrapping round). -/
def rowsOf (h : Vec F S8192x128 .f32) (n : ℕ) : Vec F S256x128 .f32 :=
  fun j => h (fun a => match a with
    | 0 => ⟨(n + (j 0).val) % 8192, Nat.mod_lt _ (by decide)⟩
    | 1 => j 1)

/-- What the first TensorCore kernel leaves: its operations on the thirty-two tiles' histograms. -/
def scanV (h : Vec F S8192x128 .f32) : Vec F S256x128 .f32 :=
  k1_pay3 (k1_pay2 (k1_pay1 (rowsOf h 0) (rowsOf h 256) (rowsOf h 512) (rowsOf h 768) (rowsOf h 1024) (rowsOf h 1280) (rowsOf h 1536)
      (rowsOf h 1792) (rowsOf h 2048) (rowsOf h 2304) (rowsOf h 2560) (rowsOf h 2816))
    (rowsOf h 3072) (rowsOf h 3328) (rowsOf h 3584) (rowsOf h 3840) (rowsOf h 4096) (rowsOf h 4352) (rowsOf h 4608)
      (rowsOf h 4864) (rowsOf h 5120) (rowsOf h 5376) (rowsOf h 5632) (rowsOf h 5888))
    (rowsOf h 6144) (rowsOf h 6400) (rowsOf h 6656) (rowsOf h 6912) (rowsOf h 7168) (rowsOf h 7424) (rowsOf h 7680) (rowsOf h 7936)

/-- A load of 256 whole rows reads those rows. -/
theorem readAt_rows (f : Vec F S8192x128 .f32) (n : ℕ) (inb) :
    View.readAt (Elt F) (View.whole cc1_stg0_0)
      (Rect.unit (s := S8192x128) ![n, 0] ![256, 128] inb).toLoadRect f = rowsOf f n := by
  have h0 : n + 256 ≤ 8192 := inb 0
  funext j
  have hj : (j 0).val < 256 := (j 0).isLt
  show f _ = f _
  congr 1
  funext a
  fin_cases a
  · apply Fin.ext
    show n + 1 * (j 0).val = (n + (j 0).val) % 8192
    omega
  · apply Fin.ext
    show 0 + 1 * (j 1).val = (j 1).val
    omega

/-- A store over the whole of the result's buffer leaves what was stored. -/
theorem write_all (g w : Vec F S256x128 .f32) :
    (View.whole cc1_stg1_0).writes (Elt F) g [⟨Rect.unit (s := S256x128) ![0, 0] ![256, 128] inb_S256x128_S256x128_0_0, w⟩] = w := by
  funext j
  have h0 : (j 0).val < 256 := (j 0).isLt
  have h1 : (j 1).val < 128 := (j 1).isLt
  refine (congrFun (View.write_whole_slice_unit cc1_stg1_0 ![0, 0] S256x128.size inb_S256x128_S256x128_0_0 g w) j).trans ?_
  unfold updateSlice
  rw [dif_pos (fun a => by
    fin_cases a
    · exact ⟨Nat.zero_le _, show (j 0).val < 0 + 256 by omega⟩
    · exact ⟨Nat.zero_le _, show (j 1).val < 0 + 128 by omega⟩)]
  congr 1
  funext a
  fin_cases a <;> rfl

/-- The first TensorCore kernel's body, on its staging buffers: the result's buffer ends at the suffix sums of the summed
    histograms. -/
theorem wp_scan (d : Dev nD) (f : Vec F S8192x128 .f32) (g : Vec F S256x128 .f32) :
    iprop(((Memref.whole cc1_stg0_0 : Memref sig .tc .vmem S8192x128 .f32).view.loc (T d) ↦{fullShare} f)
        ∗ ((Memref.whole cc1_stg1_0 : Memref sig .tc .vmem S256x128 .f32).view.loc (T d) ↦{fullShare} g))
      ⊢ (wp frame (wpE (defs₀ (F := F)) 𝒱₀ (T d) none) Set.univ
          (cc1__scan_body (F := F) (Memref.whole cc1_stg0_0) (Memref.isWhole_whole _) (Memref.whole cc1_stg1_0) (Memref.isWhole_whole _))
          fun _ => iprop(((Memref.whole cc1_stg0_0 : Memref sig .tc .vmem S8192x128 .f32).view.loc (T d) ↦{fullShare} f)
        ∗ ((Memref.whole cc1_stg1_0 : Memref sig .tc .vmem S256x128 .f32).view.loc (T d) ↦{fullShare} scanV f)) : sProp 𝕄) := by
  rw [cc1__scan_body_eq_skeleton]
  unfold cc1__scan_body_skel
  rw [k1_part1_eq_skeleton, k1_part2_eq_skeleton, k1_part3_eq_skeleton]
  unfold k1_part1_skel k1_part2_skel k1_part3_skel
  iintro ⟨Hf, Hg⟩
  sl_exec
  rw [wp_ret]
  imodintro
  isplitl [Hf]; · iexact Hf
  simp only [readAt_rows]
  rw [write_all]
  unfold scanV
  iexact Hg

end Cert.Proof.KI

end
-- ==== Proof.IFinal.lean ====
module

public import proofs.«01_k».proof.Proof.IHist
public import Idealize.ShloMosaic.Lib.VecWindow

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 2) (Elt F) ℕ UU ℕ

def first (i : grid3.Coords) : BitVec 1 :=
  Scalar.cmpi .ne (Scalar.extui (Scalar.cmpi .eq (BitVec.ofNat 32 (i 0).val) 0#32) : BitVec 32) 0#32

theorem cond_first (i : grid3.Coords) : Iff (first i = 1#1) ((i 0).val = 0) := by
  have h : (i 0).val < 8 := (i 0).isLt
  unfold first
  generalize (i 0).val = n at h ⊢
  interval_cases n <;> decide
theorem cond_last (i : grid3.Coords) : Iff (k3_cond2 i = 1#1) ((i 0).val = 7) := by
  have h : (i 0).val < 8 := (i 0).isLt
  unfold k3_cond2
  generalize (i 0).val = n at h ⊢
  interval_cases n <;> decide

/-- The one index of a 1×1 buffer. -/
def ix11 : S1x1.Idx := Shape.Idx.first (by decide)

/-- What is stored last over the whole of a 1×1 buffer is what it holds. -/
theorem owns_stored (d : Dev nD) {sp : Space} (m : Memref sig .tc sp S1x1 .f32) (q : PosShare TreeShare) (f : m.view.ty.Contents (Elt F))
    (inb) (w : S1x1.Idx → Elt F .f32) (L : List (View.Piece (Elt F) S1x1 .f32)) :
    (m.view.loc (T d) ↦[m.view.set]{q} m.view.writes (Elt F) f (⟨Rect.unit (s := S1x1) ![0, 0] ![1, 1] inb, w⟩ :: L) : sProp 𝕄)
      ⊢ iprop(∃ f, ⌜m.view.read (Elt F) f = w⌝ ∗ (m.view.loc (T d) ↦[m.view.set]{q} f)) := by
  iintro H
  iexists (m.view.writes (Elt F) f (⟨Rect.unit (s := S1x1) ![0, 0] ![1, 1] inb, w⟩ :: L))
  isplit
  · ipureintro; exact View.read_writes_full m.view f inb w L
  · iexact H

/-- A buffer's contents are what it reads. -/
theorem owns_self (d : Dev nD) {sp : Space} {s : Shape} {e : EltTy} (m : Memref sig .tc sp s e) (q : PosShare TreeShare) (f : m.view.ty.Contents (Elt F)) :
    (m.view.loc (T d) ↦[m.view.set]{q} f : sProp 𝕄)
      ⊢ iprop(∃ g, ⌜m.view.read (Elt F) g = m.view.read (Elt F) f⌝ ∗ (m.view.loc (T d) ↦[m.view.set]{q} g)) := by
  iintro H
  iexists f
  isplit
  · ipureintro; rfl
  · iexact H

/-- A load of the whole of a 1024×128 buffer. -/
theorem readAt_block {sp : Space} {κ : Kind} (m : Memref sig κ sp S1024x128 .f32) (f : m.view.ty.Contents (Elt F)) (inb) :
    View.readAt (Elt F) m.view (Rect.unit (s := S1024x128) ![0, 0] ![1024, 128] inb).toLoadRect f = m.view.read (Elt F) f :=
  View.readAt_full m.view f inb

/-- A load of the one word of a 1×1 buffer. -/
theorem readAt_word {sp : Space} {κ : Kind} (m : Memref sig κ sp S1x1 .f32) (f : m.view.ty.Contents (Elt F)) (inb) :
    View.readAt (Elt F) m.view (Rect.unit (s := S1x1) ![0, 0] ![1, 1] inb).toLoadRect f = m.view.read (Elt F) f :=
  View.readAt_full m.view f inb

/-- That load after a store. -/
theorem readAt_word_stored {sp : Space} {κ : Kind} (m : Memref sig κ sp S1x1 .f32) (f : m.view.ty.Contents (Elt F)) (inb inb')
    (w : S1x1.Idx → Elt F .f32) (L : List (View.Piece (Elt F) S1x1 .f32)) :
    View.readAt (Elt F) m.view (Rect.unit (s := S1x1) ![0, 0] ![1, 1] inb).toLoadRect
      (m.view.writes (Elt F) f (⟨Rect.unit (s := S1x1) ![0, 0] ![1, 1] inb', w⟩ :: L)) = w :=
  View.readAt_writes_full m.view f inb inb' w L

/-- The first accumulator after one block: the block's masked sum of log-risk minus log-denominator, added to what it held. -/
def nextS (first : Prop) [Decidable first] (lr ev g : Vec F S1024x128 .f32) (Fs : Vec F S1x1 .f32) : F .f32 :=
  k3_pay3 lr ev g (if first then Scalar.ofBits .f32 0x00000000#32 else Fs ix11)

/-- The second accumulator after one block: the block's events, added to what it held. -/
def nextE (first : Prop) [Decidable first] (ev : Vec F S1024x128 .f32) (Fe : Vec F S1x1 .f32) : F .f32 :=
  k3_pay4 ev (if first then Scalar.ofBits .f32 0x00000000#32 else Fe ix11)

/-- The second TensorCore kernel's body at one grid point: both accumulators step, and at the last point the result's cell
    takes the quotient. -/
theorem wp_final (d : Dev nD) (i : grid3.Coords) (m1 m2 m3 : Memref sig .tc .vmem S1024x128 .f32) (h1 : m1.IsWhole) (h2 : m2.IsWhole) (h3 : m3.IsWhole)
    (m4 aS aE : Memref sig .tc .smem S1x1 .f32) (h4 : m4.IsWhole) (hS : aS.IsWhole) (hE : aE.IsWhole) (X1 X2 X3 : Vec F S1024x128 .f32) (X4 Fs Fe : Vec F S1x1 .f32) :
    iprop(owns (T d) m1 fullShare X1 ∗ owns (T d) m2 fullShare X2 ∗ owns (T d) m3 fullShare X3 ∗ owns (T d) m4 fullShare X4
      ∗ owns (T d) aS fullShare Fs ∗ owns (T d) aE fullShare Fe)
      ⊢ (wp frame (wpE (defs₀ (F := F)) 𝒱₀ (T d) none) Set.univ
          (cc3__final_body (F := F) i m1 h1 m2 h2 m3 h3 m4 h4 aS hS aE hE)
          fun _ => iprop(owns (T d) m1 fullShare X1 ∗ owns (T d) m2 fullShare X2 ∗ owns (T d) m3 fullShare X3
            ∗ owns (T d) m4 fullShare (if (i 0).val = 7 then (fun _ => k3_pay1 (nextS ((i 0).val = 0) X1 X2 X3 Fs) (nextE ((i 0).val = 0) X2 Fe)) else X4)
            ∗ owns (T d) aS fullShare (fun _ => nextS ((i 0).val = 0) X1 X2 X3 Fs)
            ∗ owns (T d) aE fullShare (fun _ => nextE ((i 0).val = 0) X2 Fe)) : sProp 𝕄) := by
  rw [cc3__final_body_eq_skeleton]
  unfold cc3__final_body_skel
  rw [k3_part1_eq_skeleton]
  unfold k3_part1_skel owns
  iintro ⟨⟨%f1, %e1, H1⟩, ⟨%f2, %e2, H2⟩, ⟨%f3, %e3, H3⟩, ⟨%f4, %e4, H4⟩, ⟨%fs, %es, Hs⟩, ⟨%fe, %ee, He⟩⟩
  subst e1 e2 e3 e4 es ee
  by_cases hi : (i 0).val = 0
  · have c1 := (cond_first i).mpr hi
    have hl : ¬ (i 0).val = 7 := by omega
    have c2 : ¬ (k3_cond2 i = 1#1) := fun h => hl ((cond_last i).mp h)
    rw [dif_neg c2]
    unfold first at c1
    simp only [dif_pos c1, if_pos hi, if_neg hl, nextS, nextE]
    sl_exec
    repeat (sl_step; sl_exec)
    rw [wp_ret]
    imodintro
    delta wp_final.sl.r_2
    simp only [readAt_block, readAt_word, readAt_word_stored]
    isplitl [H1]; · iapply (owns_self d m1 fullShare f1); iexact H1
    isplitl [H2]; · iapply (owns_self d m2 fullShare f2); iexact H2
    isplitl [H3]; · iapply (owns_self d m3 fullShare f3); iexact H3
    isplitl [H4]; · iapply (owns_self d m4 fullShare f4); iexact H4
    isplitl [Hs]
    · iapply (owns_stored d aS fullShare fs inb_S1x1_S1x1_0_0); iexact Hs
    · iapply (owns_stored d aE fullShare fe inb_S1x1_S1x1_0_0); iexact He
  · have c1 : ¬ (first i = 1#1) := fun h => hi ((cond_first i).mp h)
    unfold first at c1
    simp only [dif_neg c1, if_neg hi, nextS, nextE]
    by_cases hl : (i 0).val = 7
    · have c2 := (cond_last i).mpr hl
      rw [dif_pos c2]
      simp only [if_pos hl]
      sl_exec
      repeat (sl_step; sl_exec)
      rw [wp_ret]
      imodintro
      delta wp_final.sl.r_3 wp_final.sl.r_4 wp_final.sl.r_5 wp_final.sl.r_6
      simp only [readAt_block, readAt_word, readAt_word_stored]
      isplitl [H1]; · iapply (owns_self d m1 fullShare f1); iexact H1
      isplitl [H2]; · iapply (owns_self d m2 fullShare f2); iexact H2
      isplitl [H3]; · iapply (owns_self d m3 fullShare f3); iexact H3
      isplitl [H4]; · iapply (owns_stored d m4 fullShare f4 inb_S1x1_S1x1_0_0); iexact H4
      isplitl [Hs]
      · iapply (owns_stored d aS fullShare fs inb_S1x1_S1x1_0_0); iexact Hs
      · iapply (owns_stored d aE fullShare fe inb_S1x1_S1x1_0_0); iexact He
    · have c2 : ¬ (k3_cond2 i = 1#1) := fun h => hl ((cond_last i).mp h)
      rw [dif_neg c2]
      simp only [if_neg hl]
      sl_exec
      repeat (sl_step; sl_exec)
      rw [wp_ret]
      imodintro
      delta wp_final.sl.r_8 wp_final.sl.r_9
      simp only [readAt_block, readAt_word, readAt_word_stored]
      isplitl [H1]; · iapply (owns_self d m1 fullShare f1); iexact H1
      isplitl [H2]; · iapply (owns_self d m2 fullShare f2); iexact H2
      isplitl [H3]; · iapply (owns_self d m3 fullShare f3); iexact H3
      isplitl [H4]; · iapply (owns_self d m4 fullShare f4); iexact H4
      isplitl [Hs]
      · iapply (owns_stored d aS fullShare fs inb_S1x1_S1x1_0_0); iexact Hs
      · iapply (owns_stored d aE fullShare fe inb_S1x1_S1x1_0_0); iexact He

end Cert.Proof.KI

end
-- ==== Proof.IRegions.lean ====
module

public import proofs.«01_k».proof.Proof.IScan
public import proofs.«01_k».proof.Proof.IFinal
public import proofs.«01_k».proof.Proof.Gen.KernelIdeal.Points
public import Idealize.ShloMosaic.Lib.Pipeline.ValueKit.Geometry

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 2) (Elt F) ℕ UU ℕ

/-- The waits a TensorCore may have recorded before SparseCore call `n`. -/
def recd (d : Dev nD) (n : ℕ) : Set (SemLoc sig × HIx 2) :=
  {p | (K (F := F)).lev (T d, p.1) p.2 ≤ 8 * (SparseCore.Cfg.Blocks.fst (Q := 2) (N := 2) n)}

/-! ## The first TensorCore kernel -/

/-- Its proof data, from the buffers `V` it is entered with. -/
def dat1 (V : Dev nD → Valuation τ sig (Elt F)) (c : Dev nD) : Pipeline.Dat τ (Elt F) (HIx 2) ℕ UU ℕ cfg1 c where
  A w := match w with
    | 0 => V c (Proc.devRef .tc main_v5)
    | 1 => V c (Proc.devRef .tc main_v6)
  after w _ := match w with
    | 0 => (V c (Proc.devRef .tc main_v5) : Vec F S8192x128 .f32)
    | 1 => scanV (V c (Proc.devRef .tc main_v5) : Vec F S8192x128 .f32)
  Φ _ := Pipeline.scopedRest spec1 c
  q _ := fullShare
  owed _ := (K (F := F)).Otc c 1
  recorded _ := recd (F := F) c 1

theorem before1_0 (V : Dev nD → Valuation τ sig (Elt F)) (c : Dev nD) (d) :
    (dat1 V c).before 0 t1_0 d = (V c (Proc.devRef .tc main_v5) : Vec F S8192x128 .f32) := by
  rw [(dat1 V c).before_fetched 0 t1_0 (fetch1_0 t1_0) d]
  unfold Pipeline.Dat.fetched
  funext j
  have e : ∀ t : Fin cfg1.N, win1_0.index t = ![0, 0] := by decide +kernel
  refine Eq.trans (b := ((cfg1.win 0).blk t1_0).view.read (Elt F) (V c (Proc.devRef .tc main_v5) : Vec F S8192x128 .f32) j) rfl ?_
  show (V c (Proc.devRef .tc main_v5) : Vec F S8192x128 .f32) _ = _
  congr 1
  blk_ext [e]

theorem body1 (V : Dev nD → Valuation τ sig (Elt F)) (c : Dev nD) : Pipeline.BodyObligation (dat1 V c) defs₀ 𝒱₀ none Set.univ := fun t => by
  obtain rfl := fin_N1 t
  rw [bigSep_W1, bigSep_W1]
  show iprop(Pipeline.scopedRest spec1 c ∗ (dat1 V c).owesAt none t1_0.castSucc
    ∗ (∃ d, owns (T c) (Memref.whole cc1_stg0_0 : Memref sig .tc .vmem S8192x128 .f32) fullShare ((dat1 V c).before 0 t1_0 d))
    ∗ (∃ d, owns (T c) (Memref.whole cc1_stg1_0 : Memref sig .tc .vmem S256x128 .f32) fullShare ((dat1 V c).before 1 t1_0 d))) ⊢
    wp frame (wpE (defs₀ (F := F)) 𝒱₀ (T c) none) Set.univ
          (cc1__scan_body (F := F) (Memref.whole cc1_stg0_0) (Memref.isWhole_whole _) (Memref.whole cc1_stg1_0) (Memref.isWhole_whole _))
      fun _ => iprop(Pipeline.scopedRest spec1 c ∗ (dat1 V c).owesAt none t1_0.castSucc
    ∗ (owns (T c) (Memref.whole cc1_stg0_0 : Memref sig .tc .vmem S8192x128 .f32) fullShare (V c (Proc.devRef .tc main_v5) : Vec F S8192x128 .f32))
    ∗ (owns (T c) (Memref.whole cc1_stg1_0 : Memref sig .tc .vmem S256x128 .f32) fullShare (scanV (V c (Proc.devRef .tc main_v5) : Vec F S8192x128 .f32))))
  simp only [before1_0, owns_whole]
  iintro ⟨HR, HO, ⟨%d0, H0⟩, ⟨%d1, H1⟩⟩
  iapply (wp_wand frame _ _) $$ [H0 H1]
  · iapply (wp_scan c _ _)
    isplitl [H0]; · iexact H0
    iexact H1
  iintro %u ⟨H0, H1⟩
  isplitl [HR]; · iexact HR
  isplitl [HO]; · iexact HO
  isplitl [H0]; · iexact H0
  iexact H1

/-! ## The second TensorCore kernel -/

/-- Block `t` of 1024 rows. -/
def blk8 {e : EltTy} (X : Vec F S8192x128 e) (t : ℕ) : Vec F S1024x128 e :=
  fun j => X (fun a => match a with
    | 0 => ⟨(t * 1024 + (j 0).val) % 8192, Nat.mod_lt _ (by decide)⟩
    | 1 => j 1)

/-- The sum of the terms of the first `n` blocks. -/
def accS (lr ev g : Vec F S8192x128 .f32) : ℕ → F .f32
  | 0 => Scalar.ofBits .f32 0x00000000#32
  | n + 1 => k3_pay3 (blk8 lr n) (blk8 ev n) (blk8 g n) (accS lr ev g n)

/-- The sum of the event marks of the first `n` blocks. -/
def accE (ev : Vec F S8192x128 .f32) : ℕ → F .f32
  | 0 => Scalar.ofBits .f32 0x00000000#32
  | n + 1 => k3_pay4 (blk8 ev n) (accE ev n)

/-- What the kernel writes. -/
def finalV (lr ev g : Vec F S8192x128 .f32) : Vec F S1x1 .f32 := fun _ => k3_pay1 (accS lr ev g 8) (accE ev 8)

/-- The arrays the kernel reads. -/
abbrev vLr (V : Dev nD → Valuation τ sig (Elt F)) (c : Dev nD) : Vec F S8192x128 .f32 := V c (Proc.devRef .tc main_v9)
abbrev vEv (V : Dev nD → Valuation τ sig (Elt F)) (c : Dev nD) : Vec F S8192x128 .f32 := V c (Proc.devRef .tc main_v10)
abbrev vGa (V : Dev nD → Valuation τ sig (Elt F)) (c : Dev nD) : Vec F S8192x128 .f32 := V c (Proc.devRef .tc main_v11)

/-- The kernel's scratch before point `t`, and the other kernel's staging buffers. -/
def phi3 (V : Dev nD → Valuation τ sig (Elt F)) (c : Dev nD) (t : ℕ) : sProp 𝕄 :=
  iprop((∃ f : cc1_stg0_0.ty.Contents (Elt F), ((SparseCore.T c : Thread nD τ).loc cc1_stg0_0) ↦{fullShare} f)
    ∗ (∃ f : cc1_stg1_0.ty.Contents (Elt F), ((SparseCore.T c : Thread nD τ).loc cc1_stg1_0) ↦{fullShare} f)
    ∗ (∃ X : Vec F S1x1 .f32, ⌜t ≠ 0 → X = fun _ => accS (vLr V c) (vEv V c) (vGa V c) t⌝ ∗ ((SparseCore.T c : Thread nD τ).loc cc3_scratch0) ↦{fullShare} X)
    ∗ (∃ X : Vec F S1x1 .f32, ⌜t ≠ 0 → X = fun _ => accE (vEv V c) t⌝ ∗ ((SparseCore.T c : Thread nD τ).loc cc3_scratch1) ↦{fullShare} X))

/-- Its proof data, from the buffers `V` it is entered with. -/
def dat3 (V : Dev nD → Valuation τ sig (Elt F)) (c : Dev nD) : Pipeline.Dat τ (Elt F) (HIx 2) ℕ UU ℕ cfg3 c where
  A w := match w with
    | 0 => V c (Proc.devRef .tc main_v9)
    | 1 => V c (Proc.devRef .tc main_v10)
    | 2 => V c (Proc.devRef .tc main_v11)
    | 3 => V c (Proc.devRef .tc main_v12)
  after w t := match w with
    | 0 => blk8 (vLr V c) t.val
    | 1 => blk8 (vEv V c) t.val
    | 2 => blk8 (vGa V c) t.val
    | 3 => finalV (vLr V c) (vEv V c) (vGa V c)
  Φ t := phi3 V c t.val
  q _ := fullShare
  owed _ := (K (F := F)).Otc c 2
  recorded _ := recd (F := F) c 2

theorem index3_0 : ∀ t : Fin cfg3.N, win3_0.index t = ![t.val, 0] := by decide +kernel
theorem index3_1 : ∀ t : Fin cfg3.N, win3_1.index t = ![t.val, 0] := by decide +kernel
theorem index3_2 : ∀ t : Fin cfg3.N, win3_2.index t = ![t.val, 0] := by decide +kernel

theorem lt_N3 (t : Fin cfg3.N) : t.val < 8 := lt_of_lt_of_eq t.isLt N_3

theorem before3_0 (V : Dev nD → Valuation τ sig (Elt F)) (c : Dev nD) (t : Fin cfg3.N) (d) :
    (dat3 V c).before 0 t d = blk8 (vLr V c) t.val := by
  rw [(dat3 V c).before_fetched 0 t (fetch3_0 t) d]
  unfold Pipeline.Dat.fetched
  funext j
  have ht := lt_N3 t
  refine Eq.trans (b := ((cfg3.win 0).blk t).view.read (Elt F) (vLr V c) j) rfl ?_
  show (V c (Proc.devRef .tc main_v9) : Vec F S8192x128 .f32) _ = (V c (Proc.devRef .tc main_v9) : Vec F S8192x128 .f32) _
  congr 1
  blk_ext [index3_0]

theorem before3_1 (V : Dev nD → Valuation τ sig (Elt F)) (c : Dev nD) (t : Fin cfg3.N) (d) :
    (dat3 V c).before 1 t d = blk8 (vEv V c) t.val := by
  rw [(dat3 V c).before_fetched 1 t (fetch3_1 t) d]
  unfold Pipeline.Dat.fetched
  funext j
  have ht := lt_N3 t
  refine Eq.trans (b := ((cfg3.win 1).blk t).view.read (Elt F) (vEv V c) j) rfl ?_
  show (V c (Proc.devRef .tc main_v10) : Vec F S8192x128 .f32) _ = (V c (Proc.devRef .tc main_v10) : Vec F S8192x128 .f32) _
  congr 1
  blk_ext [index3_1]

theorem before3_2 (V : Dev nD → Valuation τ sig (Elt F)) (c : Dev nD) (t : Fin cfg3.N) (d) :
    (dat3 V c).before 2 t d = blk8 (vGa V c) t.val := by
  rw [(dat3 V c).before_fetched 2 t (fetch3_2 t) d]
  unfold Pipeline.Dat.fetched
  funext j
  have ht := lt_N3 t
  refine Eq.trans (b := ((cfg3.win 2).blk t).view.read (Elt F) (vGa V c) j) rfl ?_
  show (V c (Proc.devRef .tc main_v11) : Vec F S8192x128 .f32) _ = (V c (Proc.devRef .tc main_v11) : Vec F S8192x128 .f32) _
  congr 1
  blk_ext [index3_2]

theorem idle3_3 : ∀ t : Fin cfg3.N, cfg3.idle 3 (cfg3.grid.coords t) = !decide (t.val = 7) := by decide +kernel
theorem coords3 : ∀ t : Fin cfg3.N, ((cfg3.grid.coords t) 0).val = t.val := by decide +kernel
theorem flush3 : ∀ t : Fin cfg3.N, (cfg3.win 3).flush t = decide (t.val = 7) := by decide +kernel

theorem nextS_acc (lr ev g : Vec F S8192x128 .f32) (n : ℕ) (p : Prop) [Decidable p] (hp : Iff p (n = 0)) (X : Vec F S1x1 .f32)
    (h : n ≠ 0 → X = fun _ => accS lr ev g n) :
    nextS p (blk8 lr n) (blk8 ev n) (blk8 g n) X = accS lr ev g (n + 1) := by
  show k3_pay3 _ _ _ _ = k3_pay3 _ _ _ _
  congr 1
  by_cases hn : n = 0
  · subst hn; rw [if_pos (hp.2 rfl)]; rfl
  · rw [if_neg (fun q => hn (hp.1 q)), h hn]

theorem nextE_acc (ev : Vec F S8192x128 .f32) (n : ℕ) (p : Prop) [Decidable p] (hp : Iff p (n = 0)) (X : Vec F S1x1 .f32)
    (h : n ≠ 0 → X = fun _ => accE ev n) :
    nextE p (blk8 ev n) X = accE ev (n + 1) := by
  show k3_pay4 _ _ = k3_pay4 _ _
  congr 1
  by_cases hn : n = 0
  · subst hn; rw [if_pos (hp.2 rfl)]; rfl
  · rw [if_neg (fun q => hn (hp.1 q)), h hn]

theorem last3 (V : Dev nD → Valuation τ sig (Elt F)) (c : Dev nD) (t : Fin cfg3.N) (d3) (ht : t.val < 8) :
    (owns (T c) (st3_3 t) fullShare (if t.val = 7 then (fun _ => k3_pay1 (accS (vLr V c) (vEv V c) (vGa V c) (t.val + 1)) (accE (vEv V c) (t.val + 1)))
        else (dat3 V c).before 3 t d3) : sProp 𝕄)
    ⊢ (match !decide (t.val = 7) with
        | true => (match decide (t.val = 7) with
          | false => iprop(∃ d, owns (T c) (st3_3 t) fullShare ((dat3 V c).before 3 t d))
          | true => owns (T c) (st3_3 t) fullShare ((dat3 V c).after 3 t))
        | false => owns (T c) (st3_3 t) fullShare ((dat3 V c).after 3 t)) := by
  by_cases h7 : t.val = 7
  · rw [if_pos h7, decide_eq_true h7, show t.val + 1 = 8 by omega]
    exact .rfl
  · rw [if_neg h7, decide_eq_false h7]
    show _ ⊢ iprop(∃ d, owns (T c) (st3_3 t) fullShare ((dat3 V c).before 3 t d))
    iintro H
    iexists d3
    iexact H

theorem body3 (V : Dev nD → Valuation τ sig (Elt F)) (c : Dev nD) : Pipeline.BodyObligation (dat3 V c) defs₀ 𝒱₀ none Set.univ := fun t => by
  rw [bigSep_W3, bigSep_W3]
  have ht := lt_N3 t
  show iprop(phi3 V c t.val ∗ (dat3 V c).owesAt none t.castSucc
    ∗ (∃ d, owns (T c) (st3_0 t) fullShare ((dat3 V c).before 0 t d))
    ∗ (∃ d, owns (T c) (st3_1 t) fullShare ((dat3 V c).before 1 t d))
    ∗ (∃ d, owns (T c) (st3_2 t) fullShare ((dat3 V c).before 2 t d))
    ∗ (∃ d, owns (T c) (st3_3 t) fullShare ((dat3 V c).before 3 t d))) ⊢
    wp frame (wpE (defs₀ (F := F)) 𝒱₀ (T c) none) Set.univ (bodyAt3 t)
      fun _ => iprop(phi3 V c (t.val + 1) ∗ (dat3 V c).owesAt none t.castSucc
    ∗ owns (T c) (st3_0 t) fullShare (blk8 (vLr V c) t.val)
    ∗ owns (T c) (st3_1 t) fullShare (blk8 (vEv V c) t.val)
    ∗ owns (T c) (st3_2 t) fullShare (blk8 (vGa V c) t.val)
    ∗ (match cfg3.idle 3 (cfg3.grid.coords t) with
        | true => (match (cfg3.win 3).flush t with
          | false => iprop(∃ d, owns (T c) (st3_3 t) fullShare ((dat3 V c).before 3 t d))
          | true => owns (T c) (st3_3 t) fullShare ((dat3 V c).after 3 t))
        | false => owns (T c) (st3_3 t) fullShare ((dat3 V c).after 3 t)))
  rw [idle3_3 t, flush3 t]
  simp only [before3_0, before3_1, before3_2]
  unfold phi3
  iintro ⟨⟨Ha, Hb, ⟨%Xs, %hs, HS⟩, ⟨%Xe, %he, HE⟩⟩, HO, ⟨%d0, H0⟩, ⟨%d1, H1⟩, ⟨%d2, H2⟩, ⟨%d3, H3⟩⟩
  have hc : Iff (((grid3.coords t) 0).val = 0) (t.val = 0) := by rw [show ((grid3.coords t) 0).val = t.val from coords3 t]
  have hw := wp_final (F := F) c (grid3.coords t) (st3_0 t) (st3_1 t) (st3_2 t) (hstage3_0 _) (hstage3_1 _) (hstage3_2 _) (st3_3 t)
    (Memref.whole cc3_scratch0) (Memref.whole cc3_scratch1) (hstage3_3 _) (Memref.isWhole_whole _) (Memref.isWhole_whole _)
    (blk8 (vLr V c) t.val) (blk8 (vEv V c) t.val) (blk8 (vGa V c) t.val) ((dat3 V c).before 3 t d3) Xs Xe
  rw [nextS_acc _ _ _ _ _ hc _ hs, nextE_acc _ _ _ hc _ he] at hw
  simp only [owns_whole] at hw
  rw [show ((grid3.coords t) 0).val = t.val from coords3 t] at hw
  iapply (wp_wand frame _ _) $$ [H0 H1 H2 H3 HS HE]
  · iapply hw
    isplitl [H0]; · iexact H0
    isplitl [H1]; · iexact H1
    isplitl [H2]; · iexact H2
    isplitl [H3]; · iexact H3
    isplitl [HS]; · iexact HS
    iexact HE
  iintro %_ ⟨H0, H1, H2, H3, HS, HE⟩
  isplitl [Ha Hb HS HE]
  · isplitl [Ha]; · iexact Ha
    isplitl [Hb]; · iexact Hb
    isplitl [HS]
    · iexists _; isplitr; swap; · iexact HS
      ipureintro; exact fun _ => rfl
    · iexists _; isplitr; swap; · iexact HE
      ipureintro; exact fun _ => rfl
  isplitl [HO]; · iexact HO
  isplitl [H0]; · iexact H0
  isplitl [H1]; · iexact H1
  isplitl [H2]; · iexact H2
  ihave H := (last3 V c t d3 ht) $$ H3
  iexact H

end Cert.Proof.KI

end
-- ==== Proof.IReg.lean ====
module

public import proofs.«01_k».proof.Proof.IRegions

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 2) (Elt F) ℕ UU ℕ

/-- No pipeline has a prefetched table. -/
abbrev adm : (p : Fin 2) → (pcfgs (F := F) p).Adm := fun p => (cfgs p).toPCfg_adm

/-- The proof data of the two pipelines, from the buffers each is entered with. -/
def pdats (V1 V3 : Dev nD → Valuation τ sig (Elt F)) :
    (p : Fin 2) → (c : Dev nD) → Pipeline.Dat τ (Elt F) (HIx 2) ℕ UU ℕ (Pipeline.pin (pcfgs (F := F)) adm p) c
  | ⟨0, _⟩ => dat1 V1
  | ⟨1, _⟩ => dat3 V3

/-- The TensorCore's account between the SparseCore calls: what it still owes, and that it has waited on nothing later. -/
def owesTc (c : Dev nD) (n : ℕ) : sProp 𝕄 :=
  iprop(∃ W, ⌜(K (F := F)).WBelow (T c) W (8 * (SparseCore.Cfg.Blocks.fst (Q := 2) (N := 2) n))⌝ ∗ owes (T c) ((K (F := F)).Otc c n) W)

/-- A device's unscoped buffers at a valuation. -/
abbrev bufsAt (c : Dev nD) (V : Valuation τ sig (Elt F)) : sProp 𝕄 :=
  unscopedBufs c (fun b => V (Proc.devRef .tc b))

/-- The buffers after the scan; -/
def outV1 (V : Valuation τ sig (Elt F)) : Valuation τ sig (Elt F) :=
  Function.update V (Proc.devRef .tc main_v6) (scanV (V (Proc.devRef .tc main_v5) : Vec F S8192x128 .f32))
/-- and after the last kernel. -/
def outV3 (V : Valuation τ sig (Elt F)) : Valuation τ sig (Elt F) :=
  Function.update V (Proc.devRef .tc main_v12)
    (finalV (V (Proc.devRef .tc main_v9) : Vec F S8192x128 .f32) (V (Proc.devRef .tc main_v10) : Vec F S8192x128 .f32) (V (Proc.devRef .tc main_v11) : Vec F S8192x128 .f32))

theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this
  omega

/-- Buffers held at two valuations that agree on them. -/
theorem rest_congr (c : Dev nD) (S : Finset (Ref sig .tc)) (V V' : (b : Ref sig .tc) → Buf (Elt F) ((c.tc : Thread nD τ).loc b))
    (h : ∀ b ∈ S, V b = V' b) :
    (bigSep S fun b => ((c.tc : Thread nD τ).loc b ↦{fullShare} V b : sProp 𝕄)) = bigSep S fun b => ((c.tc : Thread nD τ).loc b ↦{fullShare} V' b : sProp 𝕄) :=
  bigSep_congr fun b hb => congrArg (fun f : Buf (Elt F) ((c.tc : Thread nD τ).loc b) => ((c.tc : Thread nD τ).loc b ↦{fullShare} f : sProp 𝕄)) (h b hb)

/-- Arrays and remaining buffers make the device's buffers again, one output rewritten. -/
theorem bufs_of_arrays (V1 V3 : Dev nD → Valuation τ sig (Elt F)) (p : Fin 2) (hw : Pipeline.WinFacts (cfgs p).spec)
    (harr : ∀ w, ((cfgs p).spec w).arr.IsWhole) (c : Dev nD)
    (hshare : ∀ w, (pdats V1 V3 p c).share w = fullShare) (V V' : Valuation τ sig (Elt F))
    (X : (w : Fin (cfgs p).W) → Buf (Elt F) (((cfgs p).spec w).arr.view.loc (c.tc : Thread nD τ)))
    (hX : ∀ w, X w = V' (Proc.devRef .tc (Pipeline.arrRef (cfgs p).spec w)))
    (hV : ∀ b, b ∉ Finset.univ.image (Pipeline.arrRef (cfgs p).spec) → V' (Proc.devRef .tc b) = V (Proc.devRef .tc b)) :
    iprop((pdats V1 V3 p c).arrays X ∗ Pipeline.unscopedRest (cfgs p).spec c (fun b => V (Proc.devRef .tc b))) ⊢ (bufsAt c V' : sProp 𝕄) := by
  unfold bufsAt
  rw [Pipeline.unscopedBufs_split (Pipeline.pin (pcfgs (F := F)) adm) p hw.arr_unscoped hw.arr_inj c,
    Pipeline.arrays_eq (Pipeline.pin (pcfgs (F := F)) adm) (pdats V1 V3) p c harr hshare]
  refine sep_mono (BIBase.Entails.of_eq (bigSep_congr fun w _ => by rw [hX])) (BIBase.Entails.of_eq ?_)
  exact rest_congr c _ _ _ fun b hb => (hV b (Finset.mem_sdiff.1 hb).2).symm

theorem owesAt_of {cfg : Pipeline.Cfg sig Λ₀} {c : Dev nD} (dat : Pipeline.Dat τ (Elt F) (HIx 2) ℕ UU ℕ cfg c) (n : ℕ) (t : Fin (cfg.N + 1))
    (h0 : dat.owed t = (K (F := F)).Otc c n) (hr : dat.recorded t = recd (F := F) c n) : owesTc (F := F) c n ⊢ dat.owesAt none t := by
  unfold owesTc Pipeline.Dat.owesAt Pipeline.owesWithin Pipeline.Dat.bound
  rw [h0, hr]
  iintro ⟨%W, %hW, HO⟩
  iexists W
  isplitr; · ipureintro; exact fun p hp => Or.inl (hW p hp)
  iexact HO

theorem of_owesAt {cfg : Pipeline.Cfg sig Λ₀} {c : Dev nD} (dat : Pipeline.Dat τ (Elt F) (HIx 2) ℕ UU ℕ cfg c) (n : ℕ) (t : Fin (cfg.N + 1))
    (h0 : dat.owed t = (K (F := F)).Otc c n) (hr : dat.recorded t = recd (F := F) c n) : dat.owesAt none t ⊢ owesTc (F := F) c n := by
  unfold owesTc Pipeline.Dat.owesAt Pipeline.owesWithin Pipeline.Dat.bound
  rw [h0, hr]
  iintro ⟨%W, %hW, HO⟩
  iexists W
  isplitr
  · ipureintro
    intro p hp
    rcases hW hp with h | ⟨w, s, h⟩
    · exact h
    · rw [h]; show (0 : ℕ) ≤ _; exact Nat.zero_le _
  iexact HO

theorem waits_of (V1 V3 : Dev nD → Valuation τ sig (Elt F)) (p : Fin 2) (c : Dev nD) (n : ℕ)
    (h0 : ∀ t, (pdats V1 V3 p c).owed t = (K (F := F)).Otc c n) :
    (levAts (K (F := F)).L (K (F := F)).lev : sProp 𝕄)
      ⊢ Pipeline.cellsWaits (Pipeline.pin (pcfgs (F := F)) adm) (pdats V1 V3) none p c :=
  Pipeline.cellsWaits_intro _ _ _ _ _ fun w s t => by
    rw [h0 t]
    exact (K (F := F)).mayWait_none _ (Otc_none c n) (K (F := F)).lev

theorem bigSep_W0 (Φ : Fin 0 → sProp 𝕄) : bigSep Finset.univ Φ = (BI.emp : sProp 𝕄) :=
  bigSep_univ_eq_bigSepL [] (by decide) (by decide) Φ

theorem prefHeld_emp (p : Fin 2) (c : Dev nD) (q) (pf) :
    (Pipeline.prefHeld (Ix := HIx 2) (Name := ℕ) (U := UU) (Lvl := ℕ) (Val := Elt F) (pcfgs (F := F) p).pre c q pf : sProp 𝕄) = BI.emp := by
  match p with
  | ⟨0, _⟩ => exact bigSep_W0 _
  | ⟨1, _⟩ => exact bigSep_W0 _

theorem arrAt1 (V : Dev nD → Valuation τ sig (Elt F)) (c : Dev nD) : (dat1 V c).arrAt 1 cfg1.N = scanV (V c (Proc.devRef .tc main_v5) : Vec F S8192x128 .f32) :=
  (dat1 V c).arrAt_eq_of_after_last 1 t1_0 (by decide +kernel) _ fun j => rfl

theorem arrAt3 (V : Dev nD → Valuation τ sig (Elt F)) (c : Dev nD) : (dat3 V c).arrAt 3 cfg3.N = finalV (vLr V c) (vEv V c) (vGa V c) :=
  (dat3 V c).arrAt_eq_of_after_last 3 t3_7 (by decide +kernel) _ fun j => rfl

theorem out1_arr (V : Dev nD → Valuation τ sig (Elt F)) (c : Dev nD) (w : Fin 2) :
    (dat1 V c).arrAt w cfg1.N = outV1 (V c) (Proc.devRef .tc (Pipeline.arrRef spec1 w)) := by
  unfold outV1
  match w with
  | 0 =>
    refine ((dat1 V c).arrAt_in 0 rfl _).trans ?_
    exact (Function.update_of_ne (show Proc.devRef .tc main_v5 ≠ Proc.devRef .tc main_v6 by decide) _ _).symm
  | 1 =>
    refine (arrAt1 V c).trans ?_
    exact (Function.update_self (Proc.devRef .tc main_v6 : DevRef τ sig) (scanV (V c (Proc.devRef .tc main_v5) : Vec F S8192x128 .f32)) (V c)).symm

theorem out1_rest (V : Valuation τ sig (Elt F)) (b : Ref sig .tc) (hb : b ∉ Finset.univ.image (Pipeline.arrRef spec1)) :
    outV1 V (Proc.devRef .tc b) = V (Proc.devRef .tc b) := by
  unfold outV1
  refine Function.update_of_ne ?_ _ _
  intro e
  rw [Proc.devRef_injective _ e] at hb
  exact hb (by decide)

theorem out3_arr (V : Dev nD → Valuation τ sig (Elt F)) (c : Dev nD) (w : Fin 4) :
    (dat3 V c).arrAt w cfg3.N = outV3 (V c) (Proc.devRef .tc (Pipeline.arrRef spec3 w)) := by
  unfold outV3
  match w with
  | 0 =>
    refine ((dat3 V c).arrAt_in 0 rfl _).trans ?_
    exact (Function.update_of_ne (show Proc.devRef .tc main_v9 ≠ Proc.devRef .tc main_v12 by decide) _ _).symm
  | 1 =>
    refine ((dat3 V c).arrAt_in 1 rfl _).trans ?_
    exact (Function.update_of_ne (show Proc.devRef .tc main_v10 ≠ Proc.devRef .tc main_v12 by decide) _ _).symm
  | 2 =>
    refine ((dat3 V c).arrAt_in 2 rfl _).trans ?_
    exact (Function.update_of_ne (show Proc.devRef .tc main_v11 ≠ Proc.devRef .tc main_v12 by decide) _ _).symm
  | 3 =>
    refine (arrAt3 V c).trans ?_
    exact (Function.update_self (Proc.devRef .tc main_v12 : DevRef τ sig) (finalV (vLr V c) (vEv V c) (vGa V c)) (V c)).symm

theorem out3_rest (V : Valuation τ sig (Elt F)) (b : Ref sig .tc) (hb : b ∉ Finset.univ.image (Pipeline.arrRef spec3)) :
    outV3 V (Proc.devRef .tc b) = V (Proc.devRef .tc b) := by
  unfold outV3
  refine Function.update_of_ne ?_ _ _
  intro e
  rw [Proc.devRef_injective _ e] at hb
  exact hb (by decide)

/-- The scan as a region of @main. -/
def reg1 (V1 V3 : Dev nD → Valuation τ sig (Elt F)) :
    Pipeline.RegionSeg (pcfgs (F := F)) adm (pdats V1 V3) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body1 V1 c).loose
  hwaits c := waits_of V1 V3 0 c 1 fun _ => rfl
  pre c := iprop(bufsAt c (V1 c) ∗ owesTc c 1)
  post c := iprop(bufsAt c (outV1 (V1 c)) ∗ owesTc c 1)
  X _ := BI.emp
  Y _ := BI.emp
  Z c := Pipeline.unscopedRest spec1 c (fun b => V1 c (Proc.devRef .tc b))
  hentry c := by
    rw [prefHeld_emp]
    iintro ⟨⟨HB, HO⟩, -, -⟩
    imodintro
    ihave HA := (Pipeline.arrays_of_unscopedBufs (pcfgs (F := F)) adm (pdats V1 V3) (p := 0) winFacts1 arr_whole1 c
      (fun w => by match w with | 0 => rfl | 1 => rfl) (fun b => V1 c (Proc.devRef .tc b)) (fun w => by match w with | 0 => rfl | 1 => rfl)) $$ HB
    icases HA with ⟨HA, HZ⟩
    isplitl [HA]; · iexact HA
    isplitr; · iempintro
    isplitl [HO]; · iapply (owesAt_of (dat1 V1 c) 1 0 rfl rfl); iexact HO
    isplitr; · iempintro
    iexact HZ
  hin c := by
    show _ ⊢ Pipeline.scopedRest spec1 c
    iintro ⟨-, -, H⟩; iexact H
  hout c := by
    show Pipeline.scopedRest spec1 c ⊢ _
    rw [Pipeline.ownSems0_none]
    iintro H
    isplitr; · iempintro
    isplitr; · iempintro
    iexact H
  hexit c := by
    iintro ⟨HA, HO, -, HZ⟩
    imodintro
    isplitl [HA HZ]
    · iapply (bufs_of_arrays V1 V3 0 winFacts1 arr_whole1 c (fun w => by match w with | 0 => rfl | 1 => rfl) (V1 c) (outV1 (V1 c)) _
        (out1_arr V1 c) (out1_rest (V1 c)))
      isplitl [HA]; · iexact HA
      iexact HZ
    iapply (of_owesAt (dat1 V1 c) 1 (Fin.last _) rfl rfl); iexact HO

/-- The last kernel as a region of @main. -/
def reg3 (V1 V3 : Dev nD → Valuation τ sig (Elt F)) :
    Pipeline.RegionSeg (pcfgs (F := F)) adm (pdats V1 V3) none defs₀ 𝒱₀ (K (F := F)).L (K (F := F)).lev 1 where
  win := winFacts3.to₀
  block_pos := block_pos3
  stage_whole := stage_whole3
  K := PEmpty
  osem k := k.elim
  ho := Pipeline.OwnSemFacts.none _
  hbody c := (body3 V3 c).loose
  hwaits c := waits_of V1 V3 1 c 2 fun _ => rfl
  pre c := iprop(bufsAt c (V3 c) ∗ owesTc c 2)
  post c := iprop(bufsAt c (outV3 (V3 c)) ∗ owesTc c 2)
  X _ := BI.emp
  Y _ := BI.emp
  Z c := Pipeline.unscopedRest spec3 c (fun b => V3 c (Proc.devRef .tc b))
  hentry c := by
    rw [prefHeld_emp]
    iintro ⟨⟨HB, HO⟩, -, -⟩
    imodintro
    ihave HA := (Pipeline.arrays_of_unscopedBufs (pcfgs (F := F)) adm (pdats V1 V3) (p := 1) winFacts3 arr_whole3 c
      (fun w => by match w with | 0 => rfl | 1 => rfl | 2 => rfl | 3 => rfl) (fun b => V3 c (Proc.devRef .tc b)) (fun w => by match w with | 0 => rfl | 1 => rfl | 2 => rfl | 3 => rfl)) $$ HB
    icases HA with ⟨HA, HZ⟩
    isplitl [HA]; · iexact HA
    isplitr; · iempintro
    isplitl [HO]; · iapply (owesAt_of (dat3 V3 c) 2 0 rfl rfl); iexact HO
    isplitr; · iempintro
    iexact HZ
  hin c := by
    show _ ⊢ phi3 V3 c 0
    unfold phi3
    rw [show (Pipeline.pin (pcfgs (F := F)) adm 1).spec = spec3 from rfl, scopedRest3_eq]
    iintro ⟨-, -, ⟨Ha, Hb, ⟨%f, Hc⟩, ⟨%g, Hd⟩⟩⟩
    isplitl [Ha]; · iexact Ha
    isplitl [Hb]; · iexact Hb
    isplitl [Hc]
    · iexists f; isplitr; · ipureintro; exact fun h => absurd rfl h
      iexact Hc
    · iexists g; isplitr; · ipureintro; exact fun h => absurd rfl h
      iexact Hd
  hout c := by
    show phi3 V3 c _ ⊢ _
    unfold phi3
    rw [Pipeline.ownSems0_none, show (Pipeline.pin (pcfgs (F := F)) adm 1).spec = spec3 from rfl, scopedRest3_eq]
    iintro ⟨Ha, Hb, ⟨%f, -, Hc⟩, ⟨%g, -, Hd⟩⟩
    isplitr; · iempintro
    isplitr; · iempintro
    isplitl [Ha]; · iexact Ha
    isplitl [Hb]; · iexact Hb
    isplitl [Hc]
    · iexists f; iexact Hc
    · iexists g; iexact Hd
  hexit c := by
    iintro ⟨HA, HO, -, HZ⟩
    imodintro
    isplitl [HA HZ]
    · iapply (bufs_of_arrays V1 V3 1 winFacts3 arr_whole3 c (fun w => by match w with | 0 => rfl | 1 => rfl | 2 => rfl | 3 => rfl) (V3 c) (outV3 (V3 c)) _
        (out3_arr V3 c) (out3_rest (V3 c)))
      isplitl [HA]; · iexact HA
      iexact HZ
    iapply (of_owesAt (dat3 V3 c) 2 (Fin.last _) rfl rfl); iexact HO

end Cert.Proof.KI

end
-- ==== Proof.ILaunch.lean ====
/-
  The whole program's run: the host operations, the two SparseCore calls and the two TensorCore kernels in order on the
  TensorCore, the tiles' tasks from the launch, and the result's contents at the end.
-/
module

public import proofs.«01_k».proof.Proof.IBodies
public import proofs.«01_k».proof.Proof.IReg

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

/-! ## The host operations and the valuations between them -/

abbrev oCst : HloOp τ sig (Elt F) := StableHlo.nullary main_cst (constant S_ .f32 0xC2C80000#32)
abbrev oId0 : HloOp τ sig (Elt F) := StableHlo.TRef.unary (.of main_cst : StableHlo.TRef sig ⟨S_, .f32⟩) main_call0.v0 id
abbrev oPad0 : HloOp τ sig (Elt F) := StableHlo.TRef.binary (.of main_arg0 : StableHlo.TRef sig ⟨S1000000, .f32⟩) main_call0.v0 main_call0.v1 (fun x v => pad S1048576 ![0] ![48576] ![0] x v pads_S1000000_S1048576_0485760 h_S_)
abbrev oCst0 : HloOp τ sig (Elt F) := StableHlo.nullary main_cst_0 (constant S_ .f32 0x00000000#32)
abbrev oId1 : HloOp τ sig (Elt F) := StableHlo.TRef.unary (.of main_cst_0 : StableHlo.TRef sig ⟨S_, .f32⟩) main_call1.v0 id
abbrev oPad1 : HloOp τ sig (Elt F) := StableHlo.TRef.binary (.of main_arg1 : StableHlo.TRef sig ⟨S1000000, .f32⟩) main_call1.v0 main_call1.v1 (fun x v => pad S1048576 ![0] ![48576] ![0] x v pads_S1000000_S1048576_0485760 h_S_)
abbrev oC : HloOp τ sig (Elt F) := StableHlo.nullary main_c (constantI S_ 32 0#32)
abbrev oId2 : HloOp τ sig (Elt F) := StableHlo.TRef.unary (.of main_c : StableHlo.TRef sig ⟨S_, .i32⟩) main_call2.v0 id
abbrev oPad2 : HloOp τ sig (Elt F) := StableHlo.TRef.binary (.of main_arg2 : StableHlo.TRef sig ⟨S1000000, .i32⟩) main_call2.v0 main_call2.v1 (fun x v => pad S1048576 ![0] ![48576] ![0] x v pads_S1000000_S1048576_0485760 h_S_)
abbrev oEv : HloOp τ sig (Elt F) := StableHlo.unary main_v2 main_v3 (sitofp .f32 : (⟨S1048576, .i32⟩ : BufTy).Contents (Elt F) → (⟨S1048576, .f32⟩ : BufTy).Contents (Elt F))
abbrev oV5 : HloOp τ sig (Elt F) := StableHlo.reshape main_v4 main_v5 (rfl : (.f32 : EltTy) = .f32) shapeCasts_S32x32768_S8192x128
abbrev oV7 : HloOp τ sig (Elt F) := StableHlo.reshape main_v6 main_v7 (rfl : (.f32 : EltTy) = .f32) shapeCasts_S256x128_S32768
abbrev oV9 : HloOp τ sig (Elt F) := StableHlo.reshape main_v0 main_v9 (rfl : (.f32 : EltTy) = .f32) shapeCasts_S1048576_S8192x128
abbrev oV10 : HloOp τ sig (Elt F) := StableHlo.reshape main_v3 main_v10 (rfl : (.f32 : EltTy) = .f32) shapeCasts_S1048576_S8192x128
abbrev oV11 : HloOp τ sig (Elt F) := StableHlo.reshape main_v8 main_v11 (rfl : (.f32 : EltTy) = .f32) shapeCasts_S1048576_S8192x128
abbrev oV13 : HloOp τ sig (Elt F) := StableHlo.reshape main_v12 main_v13 (rfl : (.f32 : EltTy) = .f32) shapeCasts_S1x1_S_

/-- A TensorCore array as a buffer of the device. -/
abbrev rf (b : Ref sig .tc) : DevRef τ sig := Proc.devRef .tc b

/-- The arrays at launch, -/
def VA0 (d : Dev nD) : Valuation τ sig (Elt F) := fun b => m (d, b)
/-- once padded and the events converted, -/
def VA (d : Dev nD) : Valuation τ sig (Elt F) :=
  oEv.result (oPad2.result (oId2.result (oC.result (oPad1.result (oId1.result (oCst0.result (oPad0.result (oId0.result (oCst.result (VA0 m d))))))))))
/-- once the tiles' histograms are in, -/
def VB (d : Dev nD) : Valuation τ sig (Elt F) :=
  Function.update (VA m d) (rf main_v4) (hist (VA m d (rf main_v0) : Vec F S1048576 .f32) (VA m d (rf main_v1) : Vec F S1048576 .f32))
def VC (d : Dev nD) : Valuation τ sig (Elt F) := oV5.result (VB m d)
/-- once they are scanned, -/
def VD (d : Dev nD) : Valuation τ sig (Elt F) := outV1 (VC m d)
def VE (d : Dev nD) : Valuation τ sig (Elt F) := oV7.result (VD m d)
/-- once the suffix sums are gathered, -/
def VF (d : Dev nD) : Valuation τ sig (Elt F) :=
  Function.update (VE m d) (rf main_v8) (gat (VE m d (rf main_v7) : Vec F S32768 .f32) (VA m d (rf main_v1) : Vec F S1048576 .f32))
def VG (d : Dev nD) : Valuation τ sig (Elt F) := oV11.result (oV10.result (oV9.result (VF m d)))
/-- and at the end. -/
def VH (d : Dev nD) : Valuation τ sig (Elt F) := outV3 (VG m d)
def VI (d : Dev nD) : Valuation τ sig (Elt F) := oV13.result (VH m d)

/-- The padded log risks, the padded durations and the suffix sums that the SparseCore calls read. -/
abbrev lrAt (d : Dev nD) : Vec F S1048576 .f32 := VA m d (rf main_v0)
abbrev duAt (d : Dev nD) : Vec F S1048576 .f32 := VA m d (rf main_v1)
abbrev suAt (d : Dev nD) : Vec F S32768 .f32 := VE m d (rf main_v7)
/-- The payloads of the run. -/
abbrev PP : (K (F := F)).Pay (nD := nD) (Val := Elt F) (Name := ℕ) (U := UU) := P (lrAt m) (duAt m) (suAt m)

/-! ## The TensorCore's state between two operations -/

/-- The TensorCore's unscoped arrays. -/
def bufs : Finset (DevRef τ sig) := (StableHlo.tcRefs τ sig).filter fun b => ¬ b.isScoped

theorem bufs_held (d : Dev nD) (V : Valuation τ sig (Elt F)) : (bufsAt d V : sProp 𝕄) = StableHlo.held (SparseCore.T d) bufs V := by
  unfold bufsAt unscopedBufs StableHlo.held bufs StableHlo.tcRefs
  rw [Finset.filter_map, BI.bigSep_map]
  rfl

/-- The region boundary and the arrays at a valuation. -/
def St (d : Dev nD) (V : Valuation τ sig (Elt F)) : sProp 𝕄 := iprop(boundary (SparseCore.T d : Thread nD τ) ∗ StableHlo.held (SparseCore.T d) bufs V)

/-- One host operation. -/
theorem hop (d : Dev nD) (op : HloOp τ sig (Elt F)) (hb : op.bufs ⊆ bufs) (hf : op.fresh = ∅) (V : Valuation τ sig (Elt F))
    (h : (SparseCore.T d : Thread nD τ).2.kind.runsHlo = true) (Φ : PUnit → sProp 𝕄) :
    St d V ⊢ iprop((St d (op.result V) -∗ Φ ⟨⟩)
      -∗ wp frame (wpE ((K (F := F)).defs (D (F := F))) 𝒱 (SparseCore.T d) none) Set.univ (hlo h op fun _ => .ret ⟨⟩) Φ) := by
  unfold St
  have hw := StableHlo.wp_hlo_within (defs := (K (F := F)).defs (D (F := F))) 𝒱 (SparseCore.T d : Thread nD τ) none Set.univ (hp := h) (op := op) (k := fun _ => (.ret ⟨⟩ : Prog _ PUnit)) (S := bufs) hb (V := V) (Q := Φ) (U := UU) (Name := ℕ) (Ix := HIx 2) (Lvl := ℕ) hf
  rw [wp_ret] at hw
  iintro Hst Hk
  iapply hw $$ [Hst]
  · iexact Hst
  iintro Hst
  imodintro
  iapply Hk
  iexact Hst

theorem regroup (A B C R : sProp 𝕄) : (iprop((A ∗ B ∗ C) ∗ R) : sProp 𝕄) = iprop(A ∗ B ∗ C ∗ R) := by
  have h1 : (iprop((A ∗ B ∗ C) ∗ R) : sProp 𝕄) ⊢ iprop(A ∗ B ∗ C ∗ R) := by
    iintro ⟨⟨Ha, Hb, Hc⟩, Hr⟩
    isplitl [Ha]; · iexact Ha
    isplitl [Hb]; · iexact Hb
    isplitl [Hc]; · iexact Hc
    iexact Hr
  have h2 : (iprop(A ∗ B ∗ C ∗ R) : sProp 𝕄) ⊢ iprop((A ∗ B ∗ C) ∗ R) := by
    iintro ⟨Ha, Hb, Hc, Hr⟩
    isplitl [Ha Hb Hc]
    · isplitl [Ha]; · iexact Ha
      isplitl [Hb]; · iexact Hb
      iexact Hc
    iexact Hr
  exact Entails.antisymm h1 h2

/-- Three arrays taken out of all of them. -/
theorem held_three (d : Dev nD) (a b c : DevRef τ sig) (hab : a ∉ ({b, c} : Finset (DevRef τ sig))) (hbc : b ∉ ({c} : Finset (DevRef τ sig)))
    (hs : ({a, b, c} : Finset (DevRef τ sig)) ⊆ bufs) (V : Valuation τ sig (Elt F)) :
    (StableHlo.held (SparseCore.T d) bufs V : sProp 𝕄)
      = iprop((((d, a) : Loc nD τ sig) ↦{fullShare} V a) ∗ (((d, b) : Loc nD τ sig) ↦{fullShare} V b) ∗ (((d, c) : Loc nD τ sig) ↦{fullShare} V c)
          ∗ StableHlo.held (SparseCore.T d) (bufs \ {a, b, c}) V) := by
  unfold StableHlo.held
  rw [SparseCore.bigSep_sdiff_split' hs, SparseCore.bigSep_insert' hab, SparseCore.bigSep_insert' hbc, bigSep_singleton]
  exact regroup _ _ _ _

/-- Three arrays put back, the third rewritten. -/
theorem held_update (d : Dev nD) (a b c : DevRef τ sig) (hab : a ∉ ({b, c} : Finset (DevRef τ sig))) (hbc : b ∉ ({c} : Finset (DevRef τ sig)))
    (hs : ({a, b, c} : Finset (DevRef τ sig)) ⊆ bufs) (V : Valuation τ sig (Elt F)) (g : c.ty.Contents (Elt F)) :
    (StableHlo.held (SparseCore.T d) bufs (Function.update V c g) : sProp 𝕄)
      = iprop((((d, a) : Loc nD τ sig) ↦{fullShare} V a) ∗ (((d, b) : Loc nD τ sig) ↦{fullShare} V b) ∗ (((d, c) : Loc nD τ sig) ↦{fullShare} g)
          ∗ StableHlo.held (SparseCore.T d) (bufs \ {a, b, c}) V) := by
  have ha : a ≠ c := fun e => hab (by rw [e]; simp)
  have hb : b ≠ c := fun e => hbc (by rw [e]; simp)
  have hr : (StableHlo.held (SparseCore.T d) (bufs \ {a, b, c}) (Function.update V c g) : sProp 𝕄) = StableHlo.held (SparseCore.T d) (bufs \ {a, b, c}) V := by
    unfold StableHlo.held
    refine bigSep_congr fun x hx => ?_
    have hx' : x ≠ c := fun e => (Finset.mem_sdiff.1 hx).2 (by rw [e]; simp)
    rw [Function.update_of_ne hx']
  rw [held_three d a b c hab hbc hs, Function.update_self, Function.update_of_ne ha, Function.update_of_ne hb, hr]

/-! ## The SparseCore calls -/

theorem call0 (κ : GSem nD τ sig → ℕ) (d : Dev nD) (Φ : PUnit → sProp 𝕄) :
    iprop((K (F := F)).ctx EH (PP m) κ ∗ (K (F := F)).tcSt EH d 0 ∗ St d (VA m d))
      ⊢ iprop(((K (F := F)).tcSt EH d 1 ∗ St d (VB m d) -∗ Φ ⟨⟩)
        -∗ wp frame (wpE ((K (F := F)).defs (D (F := F))) 𝒱 (SparseCore.T d) none) Set.univ ((K (F := F)).run d 0) Φ) := by
  unfold St VB
  rw [held_update d (rf main_v0) (rf main_v1) (rf main_v4) (by decide) (by decide) (by decide),
    held_three d (rf main_v0) (rf main_v1) (rf main_v4) (by decide) (by decide) (by decide)]
  iintro ⟨#Hctx, Hst, Hb, Hlr, Hdu, Hhi, Hrest⟩ Hk
  ihave Hd := (call0_deal (lrAt m) (duAt m) (suAt m) d) $$ [Hlr Hdu Hhi]
  · unfold hIn dealIn
    isplitl [Hlr]; · iexact Hlr
    isplitl [Hdu]; · iexact Hdu
    iexists _; iexact Hhi
  icases Hd with ⟨Hd, Hback⟩
  iapply ((K (F := F)).wp_run (D (F := F)) 𝒱 (EH := EH) (P := PP m) κ d 0) $$ [Hst Hd Hback Hb Hrest Hk]
  isplitr; · iexact Hctx
  isplitl [Hst]; · iexact Hst
  isplitl [Hd]; · iexact Hd
  iintro ⟨Hst, Hdn⟩
  ihave Ho := Hback $$ Hdn
  unfold hOut dealOut
  icases Ho with ⟨Hlr, Hdu, Hhi⟩
  iapply Hk
  isplitl [Hst]; · iexact Hst
  isplitl [Hb]; · iexact Hb
  isplitl [Hlr]; · iexact Hlr
  isplitl [Hdu]; · iexact Hdu
  isplitl [Hhi]; · iexact Hhi
  iexact Hrest

theorem VE_du (d : Dev nD) : VE m d (rf main_v1) = VA m d (rf main_v1) := by
  unfold VE VD VC VB outV1
  rw [HloOp.result_of_not_mem _ _ (show rf main_v1 ∉ ({rf main_v7} : Finset (DevRef τ sig)) by decide), Function.update_of_ne (by decide),
    HloOp.result_of_not_mem _ _ (show rf main_v1 ∉ ({rf main_v5} : Finset (DevRef τ sig)) by decide), Function.update_of_ne (by decide)]

theorem call1 (κ : GSem nD τ sig → ℕ) (d : Dev nD) (Φ : PUnit → sProp 𝕄) :
    iprop((K (F := F)).ctx EH (PP m) κ ∗ (K (F := F)).tcSt EH d 1 ∗ St d (VE m d))
      ⊢ iprop(((K (F := F)).tcSt EH d 2 ∗ St d (VF m d) -∗ Φ ⟨⟩)
        -∗ wp frame (wpE ((K (F := F)).defs (D (F := F))) 𝒱 (SparseCore.T d) none) Set.univ ((K (F := F)).run d 1) Φ) := by
  unfold St VF
  rw [held_update d (rf main_v1) (rf main_v7) (rf main_v8) (by decide) (by decide) (by decide),
    held_three d (rf main_v1) (rf main_v7) (rf main_v8) (by decide) (by decide) (by decide), VE_du]
  iintro ⟨#Hctx, Hst, Hb, Hdu, Hsu, Hga, Hrest⟩ Hk
  ihave Hd := (call1_deal (lrAt m) (duAt m) (suAt m) d) $$ [Hdu Hsu Hga]
  · unfold gIn dealIn
    isplitl [Hdu]; · iexact Hdu
    isplitl [Hsu]; · iexact Hsu
    iexists _; iexact Hga
  icases Hd with ⟨Hd, Hback⟩
  iapply ((K (F := F)).wp_run (D (F := F)) 𝒱 (EH := EH) (P := PP m) κ d 1) $$ [Hst Hd Hback Hb Hrest Hk]
  isplitr; · iexact Hctx
  isplitl [Hst]; · iexact Hst
  isplitl [Hd]; · iexact Hd
  iintro ⟨Hst, Hdn⟩
  ihave Ho := Hback $$ Hdn
  unfold gOut dealOut
  icases Ho with ⟨Hdu, Hsu, Hga⟩
  iapply Hk
  isplitl [Hst]; · iexact Hst
  isplitl [Hb]; · iexact Hb
  isplitl [Hdu]; · iexact Hdu
  isplitl [Hsu]; · iexact Hsu
  isplitl [Hga]; · iexact Hga
  iexact Hrest

/-! ## The TensorCore kernels -/

/-- The two pipelines' ghost state on a device. -/
def gh (p : Fin 2) (d : Dev nD) : sProp 𝕄 :=
  iprop(Pipeline.cellsGhost (Pipeline.pin (pcfgs (F := F)) adm) EP p d ∗ Pipeline.toksInit (Pipeline.pin (pcfgs (F := F)) adm) EP p d)

/-- The handshake state of the TensorCore besides its account. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 2 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_open (d : Dev nD) (n : ℕ) : ((K (F := F)).tcSt EH d n : sProp 𝕄) = iprop(owesTc (F := F) d n ∗ tcRest (F := F) d n) := rfl

theorem scan1 (κ : GSem nD τ sig → ℕ) (d : Dev nD) (V1 : Dev nD → Valuation τ sig (Elt F)) (Φ : PUnit → sProp 𝕄) :
    iprop((K (F := F)).ctx EH (PP m) κ ∗ (K (F := F)).tcSt EH d 1 ∗ gh (F := F) 0 d ∗ St d (V1 d))
      ⊢ iprop(((K (F := F)).tcSt EH d 1 ∗ St d (outV1 (V1 d)) -∗ Φ ⟨⟩)
        -∗ wp frame (wpE ((K (F := F)).defs (D (F := F))) 𝒱 (SparseCore.T d) none) Set.univ
            (Prog.lift (.customCall (SparseCore.inner (Pipeline.entry 0)) ())) Φ) := by
  have hr := (Pipeline.RegionSeg.wp (pcfgs (F := F)) adm (pdats V1 V1) none cellOf_inj EP defs₀ 𝒱₀ (K (F := F)).L (K (F := F)).lev (reg1 V1 V1) d none
    (fun u h => nomatch h) (fun _ => .ret ⟨⟩) Φ)
  rw [show (reg1 V1 V1).pre d = iprop(bufsAt d (V1 d) ∗ owesTc d 1) from rfl, show (reg1 V1 V1).post d = iprop(bufsAt d (outV1 (V1 d)) ∗ owesTc d 1) from rfl] at hr
  have hl := hr.trans ((K (F := F)).wp_liftProg (D (F := F)) 𝒱 (SparseCore.T d) Set.univ none _ Φ)
  rw [wp_ret] at hl
  unfold gh St
  rw [tcSt_open, ← bufs_held, ← bufs_held]
  iintro ⟨#Hctx, ⟨Ho, Hr⟩, ⟨Hg, Ht⟩, Hb, Hbufs⟩ Hk
  ihave Hlv := ((K (F := F)).ctx_levAts (EH := EH) (P := PP m) κ) $$ Hctx
  iapply hl
  isplitl [Hk Hr]
  · iintro ⟨Hb, Hbufs, Ho⟩
    imodintro
    iapply Hk
    isplitl [Ho Hr]
    · isplitl [Ho]; · iexact Ho
      iexact Hr
    isplitl [Hb]; · iexact Hb
    iexact Hbufs
  isplitl [Hb]; · iexact Hb
  isplitl [Hbufs Ho]
  · isplitl [Hbufs]; · iexact Hbufs
    iexact Ho
  isplitl [Hlv]; · iexact Hlv
  isplitl [Hg]; · iexact Hg
  iexact Ht

theorem final3 (κ : GSem nD τ sig → ℕ) (d : Dev nD) (V3 : Dev nD → Valuation τ sig (Elt F)) (Φ : PUnit → sProp 𝕄) :
    iprop((K (F := F)).ctx EH (PP m) κ ∗ (K (F := F)).tcSt EH d 2 ∗ gh (F := F) 1 d ∗ St d (V3 d))
      ⊢ iprop(((K (F := F)).tcSt EH d 2 ∗ St d (outV3 (V3 d)) -∗ Φ ⟨⟩)
        -∗ wp frame (wpE ((K (F := F)).defs (D (F := F))) 𝒱 (SparseCore.T d) none) Set.univ
            (Prog.lift (.customCall (SparseCore.inner (Pipeline.entry 1)) ())) Φ) := by
  have hr := (Pipeline.RegionSeg.wp (pcfgs (F := F)) adm (pdats V3 V3) none cellOf_inj EP defs₀ 𝒱₀ (K (F := F)).L (K (F := F)).lev (reg3 V3 V3) d none
    (fun u h => nomatch h) (fun _ => .ret ⟨⟩) Φ)
  rw [show (reg3 V3 V3).pre d = iprop(bufsAt d (V3 d) ∗ owesTc d 2) from rfl, show (reg3 V3 V3).post d = iprop(bufsAt d (outV3 (V3 d)) ∗ owesTc d 2) from rfl] at hr
  have hl := hr.trans ((K (F := F)).wp_liftProg (D (F := F)) 𝒱 (SparseCore.T d) Set.univ none _ Φ)
  rw [wp_ret] at hl
  unfold gh St
  rw [tcSt_open, ← bufs_held, ← bufs_held]
  iintro ⟨#Hctx, ⟨Ho, Hr⟩, ⟨Hg, Ht⟩, Hb, Hbufs⟩ Hk
  ihave Hlv := ((K (F := F)).ctx_levAts (EH := EH) (P := PP m) κ) $$ Hctx
  iapply hl
  isplitl [Hk Hr]
  · iintro ⟨Hb, Hbufs, Ho⟩
    imodintro
    iapply Hk
    isplitl [Ho Hr]
    · isplitl [Ho]; · iexact Ho
      iexact Hr
    isplitl [Hb]; · iexact Hb
    iexact Hbufs
  isplitl [Hb]; · iexact Hb
  isplitl [Hbufs Ho]
  · isplitl [Hbufs]; · iexact Hbufs
    iexact Ho
  isplitl [Hlv]; · iexact Hlv
  isplitl [Hg]; · iexact Hg
  iexact Ht

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a device's TensorCore starts with besides the launch's own: its two pipelines' ghost state. -/
def G (d : Dev nD) : sProp 𝕄 := iprop(gh (F := F) 0 d ∗ gh (F := F) 1 d)

theorem ghosts : iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
    ⊢ (bigSep Finset.univ (G (F := F)) : sProp 𝕄) := by
  have hp (c : Dev nD) : iprop((bigSep Finset.univ fun p => Pipeline.cellsGhost (Pipeline.pin (pcfgs (F := F)) adm) EP p c)
      ∗ (bigSep Finset.univ fun p => Pipeline.toksInit (Pipeline.pin (pcfgs (F := F)) adm) EP p c)) ⊢ (G (F := F) c : sProp 𝕄) := by
    unfold G gh
    rw [show (Finset.univ : Finset (Fin 2)) = {0, 1} by decide, SparseCore.bigSep_insert' (by decide), bigSep_singleton, SparseCore.bigSep_insert' (by decide), bigSep_singleton]
    iintro ⟨⟨H0, H1⟩, T0, T1⟩
    isplitl [H0 T0]
    · isplitl [H0]; · iexact H0
      iexact T0
    isplitl [H1]; · iexact H1
    iexact T1
  rw [← bigSep_sep']
  exact bigSep_mono fun c _ => hp c

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 2 => (PP m).x q thr) := by
  have hx : (bigSep Finset.univ fun thr : Thread nD τ => bigSep Finset.univ fun q : Fin 2 => (PP m).x q thr) = (iprop(emp) : sProp 𝕄) := by
    unfold PP P; dsimp only
    exact (bigSep_congr fun _ _ => bigSep_emp_const (M := 𝕄) _).trans (bigSep_emp_const (M := 𝕄) _)
  rw [hx]
  have hpair := ownU_pair (nD := nD) (τ := τ) (sig := sig) (Ix := HIx 2) (Val := Elt F) (Name := ℕ) (Lvl := ℕ) (initOf (K (F := F)).hsCells (K (F := F)).hsToks : UH)
    ((initOf (Pipeline.cells (Pipeline.pin (pcfgs (F := F)) adm) cellOf_inj) (Pipeline.launchToks (Pipeline.pin (pcfgs (F := F)) adm) cellOf_inj), 1) : UP × Counters)
  have hg := (Pipeline.fund_ghost (Ix := HIx 2) (Val := Elt F) (Name := ℕ) (U := UU) (Lvl := ℕ) (τ := τ) (nD := nD) (Pipeline.pin (pcfgs (F := F)) adm) EP cellOf_inj)
  unfold u₀
  iintro Hu
  ihave H := hpair $$ Hu
  icases H with ⟨HH, HP⟩
  ihave HP' := (show BI.own ((embR : Emb (UP × Counters) 𝕄) ((initOf (Pipeline.cells (Pipeline.pin (pcfgs (F := F)) adm) cellOf_inj) (Pipeline.launchToks (Pipeline.pin (pcfgs (F := F)) adm) cellOf_inj), 1) : UP × Counters))
      ⊢ (BI.own (EP (initOf (Pipeline.cells (Pipeline.pin (pcfgs (F := F)) adm) cellOf_inj) (Pipeline.launchToks (Pipeline.pin (pcfgs (F := F)) adm) cellOf_inj))) : sProp 𝕄) from .rfl) $$ HP
  imod hg $$ HP' with ⟨Hg, Ht⟩
  imodintro
  isplitl [HH]; · iexact HH
  isplitl [Hg Ht]
  · iapply ghosts
    isplitl [Hg]; · iexact Hg
    iexact Ht
  iempintro

/-! ## @main -/

/-- What @main leaves the claim: the arrays at the end. -/
def FIN (d : Dev nD) : sProp 𝕄 := StableHlo.held (SparseCore.T d) bufs (VI m d)

theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  have h0 : unscopedBufs d (fun b => m ((SparseCore.T d : Thread nD τ).loc b)) = (StableHlo.held (SparseCore.T d) bufs (VA0 m d) : sProp 𝕄) := bufs_held d (VA0 m d)
  unfold SparseCore.Cfg.tcRes SparseCore.Cfg.tcEnd G FIN
  rw [h0]
  simp only [main, fn_pad.body, fn_pad_0.body, wp_bind, wp_pure]
  iintro ⟨#Hctx, Hst, ⟨Hb, Hheld, Hts, -⟩, Hg0, Hg1⟩
  ihave H := (show iprop(boundary (SparseCore.T d : Thread nD τ) ∗ StableHlo.held (SparseCore.T d) bufs (VA0 m d)) ⊢ (St d (VA0 m d) : sProp 𝕄) from .rfl) $$ [Hb Hheld]
  · isplitl [Hb]; · iexact Hb
    iexact Hheld
  iapply (hop d oCst (show ({rf main_cst} : Finset (DevRef τ sig)) ⊆ bufs by decide) rfl _ _ _) $$ H; iintro H
  iapply (hop d oId0 (show ({rf main_cst, rf main_call0_v0} : Finset (DevRef τ sig)) ⊆ bufs by decide) rfl _ _ _) $$ H; iintro H
  iapply (hop d oPad0 (show ({rf main_arg0, rf main_call0_v0, rf main_v0} : Finset (DevRef τ sig)) ⊆ bufs by decide) rfl _ _ _) $$ H; iintro H
  imodintro
  iapply (hop d oCst0 (show ({rf main_cst_0} : Finset (DevRef τ sig)) ⊆ bufs by decide) rfl _ _ _) $$ H; iintro H
  iapply (hop d oId1 (show ({rf main_cst_0, rf main_call1_v0} : Finset (DevRef τ sig)) ⊆ bufs by decide) rfl _ _ _) $$ H; iintro H
  iapply (hop d oPad1 (show ({rf main_arg1, rf main_call1_v0, rf main_v1} : Finset (DevRef τ sig)) ⊆ bufs by decide) rfl _ _ _) $$ H; iintro H
  imodintro
  iapply (hop d oC (show ({rf main_c} : Finset (DevRef τ sig)) ⊆ bufs by decide) rfl _ _ _) $$ H; iintro H
  iapply (hop d oId2 (show ({rf main_c, rf main_call2_v0} : Finset (DevRef τ sig)) ⊆ bufs by decide) rfl _ _ _) $$ H; iintro H
  iapply (hop d oPad2 (show ({rf main_arg2, rf main_call2_v0, rf main_v2} : Finset (DevRef τ sig)) ⊆ bufs by decide) rfl _ _ _) $$ H; iintro H
  imodintro
  iapply (hop d oEv (show ({rf main_v2, rf main_v3} : Finset (DevRef τ sig)) ⊆ bufs by decide) rfl _ _ _) $$ H; iintro H
  iapply (call0 m κ d _) $$ [Hst H]
  · isplitr; · iexact Hctx
    isplitl [Hst]; · iexact Hst
    iexact H
  iintro ⟨Hst, H⟩
  iapply (hop d oV5 (show ({rf main_v4, rf main_v5} : Finset (DevRef τ sig)) ⊆ bufs by decide) rfl _ _ _) $$ H; iintro H
  iapply (scan1 m κ d (VC m) _) $$ [Hst H Hg0]
  · isplitr; · iexact Hctx
    isplitl [Hst]; · iexact Hst
    isplitl [Hg0]; · iexact Hg0
    iexact H
  iintro ⟨Hst, H⟩
  iapply (hop d oV7 (show ({rf main_v6, rf main_v7} : Finset (DevRef τ sig)) ⊆ bufs by decide) rfl _ _ _) $$ H; iintro H
  iapply (call1 m κ d _) $$ [Hst H]
  · isplitr; · iexact Hctx
    isplitl [Hst]; · iexact Hst
    iexact H
  iintro ⟨Hst, H⟩
  iapply (hop d oV9 (show ({rf main_v0, rf main_v9} : Finset (DevRef τ sig)) ⊆ bufs by decide) rfl _ _ _) $$ H; iintro H
  iapply (hop d oV10 (show ({rf main_v3, rf main_v10} : Finset (DevRef τ sig)) ⊆ bufs by decide) rfl _ _ _) $$ H; iintro H
  iapply (hop d oV11 (show ({rf main_v8, rf main_v11} : Finset (DevRef τ sig)) ⊆ bufs by decide) rfl _ _ _) $$ H; iintro H
  iapply (final3 m κ d (VG m) _) $$ [Hst H Hg1]
  · isplitr; · iexact Hctx
    isplitl [Hst]; · iexact Hst
    isplitl [Hg1]; · iexact Hg1
    iexact H
  iintro ⟨Hst, H⟩
  iapply (hop d oV13 (show ({rf main_v12, rf main_v13} : Finset (DevRef τ sig)) ⊆ bufs by decide) rfl _ _ _) $$ H; iintro H
  imodintro
  ihave H' := (show (St d (oV13.result (outV3 (VG m d))) : sProp 𝕄) ⊢ iprop(boundary (SparseCore.T d : Thread nD τ) ∗ StableHlo.held (SparseCore.T d) bufs (VI m d)) from .rfl) $$ H
  icases H' with ⟨Hb, Hheld⟩
  isplitl [Hst]; · iexact Hst
  isplitl [Hheld]; · iexact Hheld
  isplitl [Hb]; · iexact Hb
  iexact Hts

/-! ## The program's run -/

/-- The arrays of a device's TensorCore, in memory. -/
def fq (d : Dev nD) (s' : Phys nD τ sig (Elt F)) : Prop := ∀ b ∈ bufs, s'.mem.mem (d, b) = VI m d b

theorem hfin (d : Dev nD) (s' : Phys nD τ sig (Elt F)) : iprop(FIN m d ∗ SI s') ⊢ (⌜fq m d s'⌝ : sProp 𝕄) := by
  have hb (b : DevRef τ sig) (hb : b ∈ bufs) : iprop(FIN m d ∗ SI s') ⊢ (⌜s'.mem.mem (d, b) = VI m d b⌝ : sProp 𝕄) := by
    have hs : (FIN m d : sProp 𝕄) = iprop((((d, b) : Loc nD τ sig) ↦{fullShare} VI m d b) ∗ StableHlo.held (SparseCore.T d) (bufs \ {b}) (VI m d)) := by
      unfold FIN StableHlo.held
      rw [SparseCore.bigSep_sdiff_split' (Finset.singleton_subset_iff.2 hb), bigSep_singleton]
    rw [hs]
    iintro ⟨⟨Hx, -⟩, HSI⟩
    ihave H := (SI_pointsTo_agree (st := s') (ℓ := ((d, b) : Loc nD τ sig)) (I := Finset.univ) (q := fullShare) (f := VI m d b)) $$ [HSI Hx]
    · isplitl [HSI] <;> iassumption
    icases H with %hx
    ipureintro; exact funext fun i => hx i (Finset.mem_univ i)
  refine (forall_intro fun b => forall_intro fun h => hb b h).trans ?_
  exact (forall_mono fun b => pure_forall.2).trans pure_forall.2

/-- Every array of the TensorCore as the run leaves it, and every semaphore at zero. -/
def QC : PUnit × MemSt nD τ sig (Elt F) → Prop := fun r => (∀ d : Dev nD, ∀ b ∈ bufs, r.2.mem (d, b) = VI m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with | 0 => tileObl0 (lrAt m) (duAt m) (suAt m) | 1 => tileObl1 (lrAt m) (duAt m) (suAt m))
    (fun q _ => match q with
      | 0 => SparseCore.Cfg.VecSplit.of_plain (vecSplit0 (lrAt m) (duAt m) (suAt m))
      | 1 => SparseCore.Cfg.VecSplit.of_plain (vecSplit1 (lrAt m) (duAt m) (suAt m)))
    m ρ main (G (F := F)) (FIN m) (u₀ (F := F)) (sep_elim_left.trans (hu₀ m)) (hmain m ρ) (fq m) (hfin m) (QC m) (fun _ h hz => ⟨h, hz⟩)

end Cert.Proof.KI

end
-- ==== Proof.IFrame.lean ====
/-
  The program's frame: every run ends, the arguments as they were and every semaphore at zero.
-/
module

public import proofs.«01_k».proof.Proof.ILaunch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

/-- The host operations that prepare the SparseCore calls' operands leave alone what they do not write. -/
theorem VA_of_ne (d : Dev nD) (b : DevRef τ sig) (h : b ∉ ({rf main_cst, rf main_call0_v0, rf main_v0, rf main_cst_0, rf main_call1_v0, rf main_v1, rf main_c, rf main_call2_v0, rf main_v2, rf main_v3} : Finset (DevRef τ sig))) :
    VA m d b = m (d, b) := by
  simp only [Finset.mem_insert, Finset.mem_singleton, not_or] at h
  obtain ⟨h1, h2, h3, h4, h5, h6, h7, h8, h9, h10⟩ := h
  unfold VA
  rw [HloOp.result_of_not_mem _ _ (show b ∉ ({rf main_v3} : Finset (DevRef τ sig)) from by simpa using h10)]
  rw [HloOp.result_of_not_mem _ _ (show b ∉ ({rf main_v2} : Finset (DevRef τ sig)) from by simpa using h9)]
  rw [HloOp.result_of_not_mem _ _ (show b ∉ ({rf main_call2_v0} : Finset (DevRef τ sig)) from by simpa using h8)]
  rw [HloOp.result_of_not_mem _ _ (show b ∉ ({rf main_c} : Finset (DevRef τ sig)) from by simpa using h7)]
  rw [HloOp.result_of_not_mem _ _ (show b ∉ ({rf main_v1} : Finset (DevRef τ sig)) from by simpa using h6)]
  rw [HloOp.result_of_not_mem _ _ (show b ∉ ({rf main_call1_v0} : Finset (DevRef τ sig)) from by simpa using h5)]
  rw [HloOp.result_of_not_mem _ _ (show b ∉ ({rf main_cst_0} : Finset (DevRef τ sig)) from by simpa using h4)]
  rw [HloOp.result_of_not_mem _ _ (show b ∉ ({rf main_v0} : Finset (DevRef τ sig)) from by simpa using h3)]
  rw [HloOp.result_of_not_mem _ _ (show b ∉ ({rf main_call0_v0} : Finset (DevRef τ sig)) from by simpa using h2)]
  rw [HloOp.result_of_not_mem _ _ (show b ∉ ({rf main_cst} : Finset (DevRef τ sig)) from by simpa using h1)]
  rfl

/-- The later operations and kernels leave alone what they do not write. -/
theorem VI_of_ne (d : Dev nD) (b : DevRef τ sig) (h : b ∉ ({rf main_v4, rf main_v5, rf main_v6, rf main_v7, rf main_v8, rf main_v9, rf main_v10, rf main_v11, rf main_v12, rf main_v13} : Finset (DevRef τ sig))) :
    VI m d b = VA m d b := by
  simp only [Finset.mem_insert, Finset.mem_singleton, not_or] at h
  obtain ⟨h4, h5, h6, h7, h8, h9, h10, h11, h12, h13⟩ := h
  unfold VI VH VG VF VE VD VC VB outV1 outV3
  rw [HloOp.result_of_not_mem _ _ (show b ∉ ({rf main_v13} : Finset (DevRef τ sig)) from by simpa using h13)]
  rw [Function.update_of_ne h12]
  rw [HloOp.result_of_not_mem _ _ (show b ∉ ({rf main_v11} : Finset (DevRef τ sig)) from by simpa using h11)]
  rw [HloOp.result_of_not_mem _ _ (show b ∉ ({rf main_v10} : Finset (DevRef τ sig)) from by simpa using h10)]
  rw [HloOp.result_of_not_mem _ _ (show b ∉ ({rf main_v9} : Finset (DevRef τ sig)) from by simpa using h9)]
  rw [Function.update_of_ne h8]
  rw [HloOp.result_of_not_mem _ _ (show b ∉ ({rf main_v7} : Finset (DevRef τ sig)) from by simpa using h7)]
  rw [Function.update_of_ne h6]
  rw [HloOp.result_of_not_mem _ _ (show b ∉ ({rf main_v5} : Finset (DevRef τ sig)) from by simpa using h5)]
  rw [Function.update_of_ne h4]

/-- An argument is as it was at the end. -/
theorem VI_arg (d : Dev nD) (b : DevRef τ sig) (h : b ∈ ({rf main_arg0, rf main_arg1, rf main_arg2} : Finset (DevRef τ sig))) : VI m d b = m (d, b) := by
  simp only [Finset.mem_insert, Finset.mem_singleton] at h
  rcases h with rfl | rfl | rfl
  · rw [VI_of_ne m d _ (by decide), VA_of_ne m d _ (by decide)]
  · rw [VI_of_ne m d _ (by decide), VA_of_ne m d _ (by decide)]
  · rw [VI_of_ne m d _ (by decide), VA_of_ne m d _ (by decide)]

/-- Every run ends with the arguments as they were and every semaphore at zero. -/
theorem run_frame : θ_run (Cert.KernelIdeal.defs (F := F)) (Cert.KernelIdeal.threads (F := F)) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run Cert.KernelIdeal.defs _ _).mono (fun _ h => ⟨fun c =>
    ⟨(h.1 c (rf main_arg0) (by decide)).trans (VI_arg m c _ (by decide)), (h.1 c (rf main_arg1) (by decide)).trans (VI_arg m c _ (by decide)),
      (h.1 c (rf main_arg2) (by decide)).trans (VI_arg m c _ (by decide))⟩, h.2⟩) (run_main m ρ)

/-- Every run ends with the result as the last reshape leaves it and the arguments as they were. -/
theorem run_value : θ_run (Cert.KernelIdeal.defs (F := F)) (Cert.KernelIdeal.threads (F := F)) ⟨m, fun _ => 0, ρ⟩ (fun r =>
    ∀ c : Dev nD, r.2.mem ((c.tc : Thread nD τ).loc main_v13) = VI m c (rf main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono (fun _ h c =>
    ⟨h.1 c (rf main_v13) (by decide), (h.1 c (rf main_arg0) (by decide)).trans (VI_arg m c _ (by decide)),
      (h.1 c (rf main_arg1) (by decide)).trans (VI_arg m c _ (by decide)), (h.1 c (rf main_arg2) (by decide)).trans (VI_arg m c _ (by decide))⟩) (run_main m ρ)

end Cert.Proof.KI

end
-- ==== Proof.ISums.lean ====
/-
  Sums of extended reals over initial segments of the naturals, and arrays read by row-major position: what relates the
  kernel's blocked sums to the reference's plain ones.
-/
module

public import proofs.«01_k».proof.Proof.IValues

@[expose] public section

noncomputable section

namespace Cert.Proof.KI

open Idealize.ShloMosaic
open scoped BigOperators

/-- A sum over `a` blocks of `m` is the sum over `m a` entries. -/
theorem sum_blocks (f : ℕ → EReal) (m a : ℕ) :
    ∑ w ∈ Finset.range a, ∑ n ∈ Finset.range m, f (m * w + n) = ∑ n ∈ Finset.range (m * a), f n := by
  induction a with
  | zero => simp
  | succ a ih => rw [Finset.sum_range_succ, ih, Nat.mul_succ, Finset.sum_range_add]

/-- A sum whose entries from `a` on are zero is the sum of the first `a`. -/
theorem sum_cut (f : ℕ → EReal) (a b : ℕ) (h : a ≤ b) (hz : ∀ n, a ≤ n → n < b → f n = 0) :
    ∑ n ∈ Finset.range b, f n = ∑ n ∈ Finset.range a, f n := by
  obtain ⟨d, rfl⟩ := Nat.exists_eq_add_of_le h
  rw [Finset.sum_range_add, Finset.sum_eq_zero (s := Finset.range d), add_zero]
  intro n hn
  exact hz _ (Nat.le_add_right _ _) (by have := Finset.mem_range.1 hn; omega)

/-- The sums over the buckets above `b` of the weights in each bucket are the sum of the weights whose bucket is above `b`. -/
theorem sum_above (B : ℕ → ℕ) (W : ℕ → EReal) (N K b : ℕ) (hB : ∀ n, n < N → B n < K) :
    ∑ b' ∈ Finset.range K, (if b < b' then ∑ n ∈ Finset.range N, (if B n = b' then W n else 0) else 0)
      = ∑ n ∈ Finset.range N, (if b < B n then W n else 0) := by
  have e : ∀ b' ∈ Finset.range K, (if b < b' then ∑ n ∈ Finset.range N, (if B n = b' then W n else 0) else 0)
      = ∑ n ∈ Finset.range N, (if B n = b' then (if b < b' then W n else 0) else 0) := by
    intro b' _
    split
    · rfl
    · simp
  rw [Finset.sum_congr rfl e, Finset.sum_comm]
  refine Finset.sum_congr rfl fun n hn => ?_
  rw [Finset.sum_ite_eq, if_pos (Finset.mem_range.2 (hB n (Finset.mem_range.1 hn)))]

/-- The entries above position `(r, c)` of an array of `R` rows of `C`: those of the rows below it, and those to its right. -/
theorem sum_suffix (T : ℕ → EReal) (R C r c : ℕ) (hr : r < R) (hc : c < C) :
    (∑ r' ∈ Finset.range R, if r < r' then ∑ c' ∈ Finset.range C, T (C * r' + c') else 0)
        + (∑ c' ∈ Finset.range C, if c < c' then T (C * r + c') else 0)
      = ∑ b ∈ Finset.range (C * R), if C * r + c < b then T b else 0 := by
  rw [← sum_blocks (fun b => if C * r + c < b then T b else 0) C R]
  have e : ∀ r' ∈ Finset.range R, (∑ c' ∈ Finset.range C, if C * r + c < C * r' + c' then T (C * r' + c') else 0)
      = (if r < r' then ∑ c' ∈ Finset.range C, T (C * r' + c') else 0)
        + (if r = r' then ∑ c' ∈ Finset.range C, (if c < c' then T (C * r + c') else 0) else 0) := by
    intro r' _
    rcases Nat.lt_trichotomy r r' with h | h | h
    · rw [if_pos h, if_neg (Nat.ne_of_lt h), add_zero]
      refine Finset.sum_congr rfl fun c' _ => if_pos ?_
      have : C * (r + 1) ≤ C * r' := Nat.mul_le_mul_left C h
      rw [Nat.mul_succ] at this
      omega
    · subst h
      rw [if_neg (Nat.lt_irrefl _), if_pos rfl, zero_add]
      refine Finset.sum_congr rfl fun c' _ => ?_
      simp only [Nat.add_lt_add_iff_left]
    · rw [if_neg (Nat.not_lt.2 (Nat.le_of_lt h)), if_neg (Nat.ne_of_gt h), add_zero]
      refine Finset.sum_eq_zero fun c' hc' => if_neg ?_
      have h1 := Finset.mem_range.1 hc'
      have : C * (r' + 1) ≤ C * r := Nat.mul_le_mul_left C h
      rw [Nat.mul_succ] at this
      omega
  rw [Finset.sum_congr rfl e, Finset.sum_add_distrib, Finset.sum_ite_eq, if_pos (Finset.mem_range.2 hr)]

section Flat
variable {s t : Shape}

/-- An array's entry at row-major position `n`, zero past its end. -/
def flat (x : s.Idx → EReal) (n : ℕ) : EReal := if h : n < s.numel then x (s.rowMajor.symm ⟨n, h⟩) else 0

/-- An entry is the one at its row-major position. -/
theorem flat_at (x : s.Idx → EReal) (i : s.Idx) (n : ℕ) (h : (s.rowMajor i).val = n) : x i = flat x n := by
  subst h
  unfold flat
  rw [dif_pos (s.rowMajor i).isLt]
  exact congrArg x (s.rowMajor.symm_apply_apply i).symm

/-- The sum of an array's entries, by row-major position. -/
theorem sum_flat (x : s.Idx → EReal) : ∑ i, x i = ∑ n ∈ Finset.range s.numel, flat x n := by
  rw [← Fin.sum_univ_eq_sum_range, ← Equiv.sum_comp s.rowMajor]
  exact Finset.sum_congr rfl fun i _ => flat_at x i _ rfl

/-- A reshape moves nothing. -/
theorem flat_cast (x : s.Idx → EReal) (h : s.ShapeCasts t) : flat (shapeCast t x h) = flat x := by
  funext n
  unfold flat
  have e : t.numel = s.numel := h
  by_cases hn : n < s.numel
  · rw [dif_pos hn, dif_pos (e ▸ hn)]
    refine congrArg x (Shape.reshapeEquiv_eq_of_rowMajor _ ?_)
    rw [Equiv.apply_symm_apply, Equiv.apply_symm_apply]
  · rw [dif_neg hn, dif_neg (e ▸ hn)]

end Flat

end Cert.Proof.KI

end
-- ==== Proof.IHistSum.lean ====
/-
  The histogram over the extended reals: its entry at a bucket is the sum of the weights whose duration falls in the bucket.
-/
module

public import proofs.«01_k».proof.Proof.ISums
public import Idealize.ShloMosaic.Lib.IdealHost

@[expose] public section

noncomputable section

namespace Cert.Proof.KI

open Cert.KernelIdeal Cert.KernelIdeal.Gen

open Idealize.ShloMosaic
open scoped BigOperators

/-- The bucket of a duration, as a number. -/
def bkt (x : EReal) : ℕ := (bucketW (F := Ideal) x).toNat

theorem bkt_lt (x : EReal) : bkt x < 32768 := bucketW_lt (F := Ideal) x

/-- The fold that the scatter is, at an entry: what the entry held and the values stored there. -/
theorem fold_sum {s : Shape} {d : Fin 1 → ℕ} (f : s.Idx → EReal) (ix : Fin (d 0) → s.Idx) (v : Fin (d 0) → EReal) (l : List (Fin (d 0)))
    (j : s.Idx) :
    (l.foldl (fun g k => fun j => if (∀ a, (j a).val = (ix k a).val) then g (ix k) + v k else g j) f) j
      = f j + (l.map fun k => if ix k = j then v k else 0).sum := by
  induction l generalizing f with
  | nil => simp
  | cons k l ih =>
    rw [List.foldl_cons, ih, List.map_cons, List.sum_cons, ← add_assoc]
    congr 1
    have e : Iff (∀ a, (j a).val = (ix k a).val) (ix k = j) :=
      ⟨fun h => funext fun a => Fin.ext (h a).symm, fun h a => by rw [h]⟩
    by_cases h : ix k = j
    · rw [if_pos (e.2 h), if_pos h, h]
    · rw [if_neg (fun q => h (e.1 q)), if_neg h, add_zero]

/-- A list of the first `N` values sums to their sum. -/
theorem sum_list (g : ℕ → EReal) (N : ℕ) : ((List.finRange N).map fun k => g k.val).sum = ∑ n ∈ Finset.range N, g n := by
  rw [← Fin.sum_univ_eq_sum_range g N, ← List.sum_ofFn, List.ofFn_eq_map]

/-- A duration's bucket is `b` as an index exactly where it is as a number. -/
theorem bucketIx_eq (x : EReal) (b : Fin 32768) : Iff (bucketIx (F := Ideal) x = Shape.ofLane (d := ![32768]) b) (bkt x = b.val) :=
  ⟨fun h => congrArg (fun i : S32768.Idx => (i 0).val) h, fun h => by
    funext a
    obtain rfl : a = 0 := Subsingleton.elim _ _
    exact Fin.ext h⟩

theorem ite_prop_congr {p q : Prop} [Decidable p] [Decidable q] (h : Iff p q) (x y : EReal) : (if p then x else y) = if q then x else y := by
  by_cases hp : p
  · rw [if_pos hp, if_pos (h.1 hp)]
  · rw [if_neg hp, if_neg (fun hq => hp (h.2 hq))]

/-- One trip adds, at a bucket, the sixteen weights of that bucket. -/
theorem trip_sum (x y : Vec Ideal S4096 .f32) (t : ℕ) (f : Vec Ideal S32768 .f32) (b : Fin 32768) :
    trip x y t f (Shape.ofLane (d := ![32768]) b)
      = f (Shape.ofLane (d := ![32768]) b)
        + ∑ n ∈ Finset.range 16, (if bkt (y (ixC (16 * t + n))) = b.val then Ideal.exp (x (ixC (16 * t + n))) else 0) := by
  have e := fold_sum (s := S32768) (d := ![16]) f (fun k => bucketIx (F := Ideal) (y (ixC (16 * t + k.val))))
    (fun k => Ideal.exp (x (ixC (16 * t + k.val)))) (List.finRange 16) (Shape.ofLane (d := ![32768]) b)
  have e2 : trip x y t f (Shape.ofLane (d := ![32768]) b)
      = ((List.finRange 16).foldl (fun g (k : Fin 16) => fun j =>
          if (∀ a, (j a).val = (bucketIx (F := Ideal) (y (ixC (16 * t + k.val))) a).val)
          then g (bucketIx (F := Ideal) (y (ixC (16 * t + k.val)))) + Ideal.exp (x (ixC (16 * t + k.val))) else g j) f)
        (Shape.ofLane (d := ![32768]) b) := by
    unfold trip storeIdx
    refine congrFun (congrArg (fun st => List.foldl st f (List.finRange 16)) ?_) _
    funext g k
    have hi : ∀ h, idxAt ![k0_pay2 (F := Ideal) (lanes y t)] h (Shape.ofLane (d := ![16]) k) = bucketIx (F := Ideal) (y (ixC (16 * t + k.val))) := by
      intro h
      funext a
      obtain rfl : a = 0 := Subsingleton.elim _ _
      rfl
    funext j
    dsimp only
    rw [if_pos rfl, hi]
    refine (congrFun (if_pos (show (1#1 : BitVec 1) = 1 from rfl)) j).trans ?_
    have hv : Elt.idxAdd (F := Ideal) .f32 (g (bucketIx (F := Ideal) (y (ixC (16 * t + k.val))))) (k0_pay1 (lanes x t) (Shape.ofLane (d := ![16]) k))
        = g (bucketIx (F := Ideal) (y (ixC (16 * t + k.val)))) + Ideal.exp (x (ixC (16 * t + k.val))) := rfl
    by_cases hq : ∀ a : Fin 1, (j a).val = (bucketIx (F := Ideal) (y (ixC (16 * t + k.val))) a).val
    · exact (if_pos hq).trans (hv.trans (if_pos hq).symm)
    · exact (if_neg hq).trans (if_neg hq).symm
  rw [e2]
  refine e.trans (congrArg (f (Shape.ofLane (d := ![32768]) b) + ·) ?_)
  refine Eq.trans (congrArg List.sum (List.map_congr_left fun k _ => ?_))
    (sum_list (fun n => if bkt (y (ixC (16 * t + n))) = b.val then Ideal.exp (x (ixC (16 * t + n))) else 0) 16)
  exact ite_prop_congr (bucketIx_eq _ b) _ _

/-- So the trips over a chunk add the chunk's weights of that bucket. -/
theorem trips_sum (x y : Vec Ideal S4096 .f32) (f : Vec Ideal S32768 .f32) (b : Fin 32768) (t : ℕ) :
    trips x y f t (Shape.ofLane (d := ![32768]) b)
      = f (Shape.ofLane (d := ![32768]) b)
        + ∑ n ∈ Finset.range (16 * t), (if bkt (y (ixC n)) = b.val then Ideal.exp (x (ixC n)) else 0) := by
  induction t with
  | zero => simp [trips]
  | succ t ih =>
    rw [trips, trip_sum, ih, add_assoc, Nat.mul_succ, Finset.sum_range_add]

/-- Entry `n` of a padded array. -/
theorem at_ixN (x : Vec Ideal S1048576 .f32) (n : ℕ) (h : n < 1048576) : x (ixN n) = flat x n := by
  refine flat_at _ _ _ ?_
  refine (Shape.rowMajor_val_one (d := ![1048576]) (ixN n)).trans ?_
  exact Nat.mod_eq_of_lt h

/-- The weight that entry `n` of the padded arrays adds to bucket `b`. -/
def wt (lr du : Vec Ideal S1048576 .f32) (b n : ℕ) : EReal := if bkt (flat du n) = b then Ideal.exp (flat lr n) else 0

theorem hist_chunks (lr du : Vec Ideal S1048576 .f32) (c s : ℕ) (hc : c < 2) (hs : s < 16) (b : Fin 32768) (r : ℕ) (hr : r ≤ 8) :
    histUpTo lr du c s r (Shape.ofLane (d := ![32768]) b) = ∑ n ∈ Finset.range (4096 * r), wt lr du b.val (tileBase c s + n) := by
  induction r with
  | zero => exact Ideal.ofBits_zero_f32
  | succ r ih =>
    rw [histUpTo, trips_sum, ih (by omega), Nat.mul_succ 4096 r, Finset.sum_range_add _ (4096 * r), show 16 * 256 = 4096 from rfl]
    refine congrArg (_ + ·) ?_
    refine Finset.sum_congr rfl fun n hn => ?_
    have hn' : n < 4096 := Finset.mem_range.1 hn
    have e : ∀ x : Vec Ideal S1048576 .f32, chunk x c s r (ixC n) = flat x (tileBase c s + (4096 * r + n)) := by
      intro x
      have e3 : ((ixC n) 0).val = n := Nat.mod_eq_of_lt hn'
      show x (ixN (tileBase c s + 4096 * r + ((ixC n) 0).val)) = _
      rw [e3, Nat.add_assoc]
      refine at_ixN x _ ?_
      unfold tileBase
      omega
    unfold wt
    rw [e, e]

/-- Row `w` of the histograms holds, at bucket `b`, the weights of that bucket in the `w`-th part of the padded arrays. -/
theorem hist_sum (lr du : Vec Ideal S1048576 .f32) (j : S32x32768.Idx) :
    hist lr du j = ∑ n ∈ Finset.range 32768, wt lr du (j 1).val (32768 * (j 0).val + n) := by
  have h0 : (j 0).val < 32 := (j 0).isLt
  have h := hist_chunks lr du ((j 0).val % 2) ((j 0).val / 2) (by omega) (by omega) (j 1) 8 le_rfl
  have e : tileBase ((j 0).val % 2) ((j 0).val / 2) = 32768 * (j 0).val := by unfold tileBase; omega
  rw [e] at h
  exact h

/-- The weight of a bucket over all of the padded arrays. -/
def total (lr du : Vec Ideal S1048576 .f32) (b : ℕ) : EReal := ∑ n ∈ Finset.range 1048576, wt lr du b n

/-- The reshaped histograms, at row-major position `32768 w + b`. -/
theorem hist_flat (lr du : Vec Ideal S1048576 .f32) (w b : ℕ) (hw : w < 32) (hb : b < 32768) :
    flat (hist lr du) (32768 * w + b) = ∑ n ∈ Finset.range 32768, wt lr du b (32768 * w + n) := by
  let j : S32x32768.Idx := fun a => match a with
    | 0 => ⟨w, hw⟩
    | 1 => ⟨b, hb⟩
  rw [← flat_at (hist lr du) j _ ((Shape.rowMajor_val_two (d := ![32, 32768]) j).trans (by show w * 32768 + b = _; omega))]
  exact hist_sum lr du j

/-- The rows of all tiles sum to the bucket's weight. -/
theorem hist_total (lr du : Vec Ideal S1048576 .f32) (b : ℕ) (hb : b < 32768) :
    ∑ w ∈ Finset.range 32, flat (hist lr du) (32768 * w + b) = total lr du b := by
  rw [Finset.sum_congr rfl fun w hw => hist_flat lr du w b (Finset.mem_range.1 hw) hb]
  exact sum_blocks (wt lr du b) 32768 32

end Cert.Proof.KI

end
-- ==== Proof.IScanSum.lean ====
/-
  The suffix sums over the extended reals: entry `b` of the scanned array is the sum of the weights whose bucket is above `b`.
-/
module

public import proofs.«01_k».proof.Proof.IHistSum
public import proofs.«01_k».proof.Proof.IScan
public import Idealize.ShloMosaic.Lib.MatmulPlain
public import Idealize.ShloMosaic.Lib.WordCmp
public import Idealize.ShloMosaic.Lib.ValueIdxCoords

@[expose] public section

noncomputable section

namespace Cert.Proof.KI

open Cert.KernelIdeal Cert.KernelIdeal.Gen

open Idealize.ShloMosaic
open Idealize.ShloMosaic.ValueIdx
open scoped BigOperators

/-- A reshape to the same shape is the array. -/
theorem cast_same {s : Shape} {α : Type} (x : s.Idx → α) (h : s.ShapeCasts s) : shapeCast s x h = x :=
  funext fun j => congrArg x (Shape.reshapeEquiv_eq_of_rowMajor _ rfl)

/-- The thirty-two histograms added up. -/
def scanTot (h : Vec Ideal S8192x128 .f32) : Vec Ideal S256x128 .f32 := fun j => ∑ w ∈ Finset.range 32, rowsOf h (256 * w) j

/-- The mask of the rows below, -/
def below : FVec Ideal S256x256 .f32 :=
  sitofp .f32 (extui 32 (cmpi .sgt (iota .tc S256x256 32 [1] iota_S256x256_d1_w32) (iota .tc S256x256 32 [0] iota_S256x256_d0_w32)) natLt_1_32)
/-- and of the entries to the right. -/
def right : FVec Ideal S128x128 .f32 :=
  sitofp .f32 (extui 32 (cmpi .sgt (iota .tc S128x128 32 [0] iota_S128x128_d0_w32) (iota .tc S128x128 32 [1] iota_S128x128_d1_w32)) natLt_1_32)

/-- What the scan makes of the summed histograms. -/
def scanTail (x : FVec Ideal S256x128 .f32) : FVec Ideal S256x128 .f32 :=
  addf (broadcastTo S256x128 (shapeCast S256x1 (multiReduction .add [1] S256
      (matmul dot_S256x256_S256x128_S256x128_1_0_0_1_n_n none below x (constant S256x128 .f32 0x00000000#32))
      0x00000000#32 reduces_S256x128_S256 (.inl rfl) rfl) shapeCasts_S256_S256x1) broadcasts_S256x1_S256x128)
    (matmul dot_S256x128_S128x128_S256x128_1_0_0_1_n_n none x right (constant S256x128 .f32 0x00000000#32))

theorem scanV_eq (h : Vec Ideal S8192x128 .f32) : scanV h = scanTail (scanTot h) := by
  unfold scanV k1_pay3 k1_pay2 k1_pay1
  simp only [cast_same]
  refine Eq.trans (b := scanTail _) rfl (congrArg scanTail ?_)
  funext j
  simp only [scanTot, Finset.sum_range_succ, Finset.sum_range_zero, zero_add]
  rfl

/-- A comparison's bit as a number. -/
theorem bit_real (p : Prop) [Decidable p] :
    ((((BitVec.ofBool (decide p)).setWidth 32).toInt : ℝ) : EReal) = if p then 1 else 0 := by
  by_cases h : p
  · rw [if_pos h, decide_eq_true h, show ((BitVec.ofBool true).setWidth 32).toInt = 1 from rfl]; norm_num
  · rw [if_neg h, decide_eq_false h, show ((BitVec.ofBool false).setWidth 32).toInt = 0 from rfl]; norm_num

theorem below_at (r k : Fin 256) : below (ix2 r k) = if r.val < k.val then 1 else 0 := by
  have e : below (ix2 r k) = ((((IntOp.cmpi .sgt (BitVec.ofNat 32 (0 * 256 + k.val)) (BitVec.ofNat 32 (0 * 256 + r.val))).setWidth 32).toInt : ℝ) : EReal) := rfl
  rw [e, Nat.zero_mul, Nat.zero_add, Nat.zero_add, WordCmp.cmpi_sgt_ofNat (by omega) (by omega), bit_real]

theorem right_at (k c : Fin 128) : right (ix2 k c) = if c.val < k.val then 1 else 0 := by
  have e : right (ix2 k c) = ((((IntOp.cmpi .sgt (BitVec.ofNat 32 (0 * 128 + k.val)) (BitVec.ofNat 32 (0 * 128 + c.val))).setWidth 32).toInt : ℝ) : EReal) := rfl
  rw [e, Nat.zero_mul, Nat.zero_add, Nat.zero_add, WordCmp.cmpi_sgt_ofNat (by omega) (by omega), bit_real]

/-- The entries of the rows below, column by column. -/
theorem dot_below (x : FVec Ideal S256x128 .f32) (r : Fin 256) (c : Fin 128) :
    matmul dot_S256x256_S256x128_S256x128_1_0_0_1_n_n none below x (constant S256x128 .f32 0x00000000#32) (ix2 r c)
      = ∑ k : Fin 256, if r.val < k.val then x (ix2 k c) else 0 := by
  refine (Ideal.matmul_plain_apply none below x (constant S256x128 .f32 0x00000000#32) r c).trans ?_
  have z : (constant S256x128 .f32 0x00000000#32 : FVec Ideal S256x128 .f32) (ix2 r c) = 0 := Ideal.ofBits_zero_f32
  rw [z, zero_add]
  refine Finset.sum_congr rfl fun k _ => ?_
  rw [below_at]
  split
  · rw [one_mul]
  · rw [zero_mul]

/-- The entries to the right in a row. -/
theorem dot_right (x : FVec Ideal S256x128 .f32) (r : Fin 256) (c : Fin 128) :
    matmul dot_S256x128_S128x128_S256x128_1_0_0_1_n_n none x right (constant S256x128 .f32 0x00000000#32) (ix2 r c)
      = ∑ k : Fin 128, if c.val < k.val then x (ix2 r k) else 0 := by
  refine (Ideal.matmul_plain_apply none x right (constant S256x128 .f32 0x00000000#32) r c).trans ?_
  have z : (constant S256x128 .f32 0x00000000#32 : FVec Ideal S256x128 .f32) (ix2 r c) = 0 := Ideal.ofBits_zero_f32
  rw [z, zero_add]
  refine Finset.sum_congr rfl fun k _ => ?_
  rw [right_at]
  split
  · rw [mul_one]
  · rw [mul_zero]

theorem tail_at (x : FVec Ideal S256x128 .f32) (r : Fin 256) (c : Fin 128) :
    scanTail x (ix2 r c) = (∑ c' : Fin 128, ∑ k : Fin 256, if r.val < k.val then x (ix2 k c') else 0)
      + ∑ k : Fin 128, if c.val < k.val then x (ix2 r k) else 0 := by
  refine congrArg₂ (· + ·) ?_ (dot_right x r c)
  let v := matmul dot_S256x256_S256x128_S256x128_1_0_0_1_n_n none below x (constant S256x128 .f32 0x00000000#32)
  let i : S256.Idx := Shape.ofLane (d := ![256]) r
  have e1 : (broadcastTo S256x128 (shapeCast S256x1 (multiReduction .add [1] S256 v
      0x00000000#32 reduces_S256x128_S256 (.inl rfl) rfl) shapeCasts_S256_S256x1) broadcasts_S256x1_S256x128) (ix2 r c)
      = multiReduction .add [1] S256 v 0x00000000#32 reduces_S256x128_S256 (.inl rfl) rfl i := by
    refine congrArg _ (Shape.reshapeEquiv_eq_of_rowMajor _ ?_)
    refine (Shape.rowMajor_val_one (d := ![256]) i).trans ?_
    refine Eq.trans ?_ (Shape.rowMajor_val_two (d := ![256, 1]) _).symm
    show r.val = r.val * 1 + 0
    omega
  refine e1.trans ((Ideal.multiReduction_add_single v _ reduces_S256x128_S256 (.inl rfl) rfl i).trans ?_)
  refine Finset.sum_congr rfl fun c' _ => ?_
  refine Eq.trans (congrArg v ?_) (dot_below x r c')
  funext a
  fin_cases a <;> rfl

/-- Row `r`, column `c` of the summed histograms. -/
theorem tot_at (h : Vec Ideal S8192x128 .f32) (r : Fin 256) (c : Fin 128) :
    scanTot h (ix2 r c) = ∑ w ∈ Finset.range 32, flat h (32768 * w + (128 * r.val + c.val)) := by
  refine Finset.sum_congr rfl fun w hw => ?_
  have hw' : w < 32 := Finset.mem_range.1 hw
  refine flat_at h _ _ ((Shape.rowMajor_val_two (d := ![8192, 128]) _).trans ?_)
  show (256 * w + r.val) % 8192 * 128 + c.val = _
  omega

/-- The scanned array at position `b`: what every position above `b` of the summed histograms adds up to. -/
theorem scan_flat (h : Vec Ideal S8192x128 .f32) (T : ℕ → EReal)
    (hT : ∀ b, b < 32768 → ∑ w ∈ Finset.range 32, flat h (32768 * w + b) = T b) (b : ℕ) (hb : b < 32768) :
    flat (scanV h) b = ∑ b' ∈ Finset.range 32768, if b < b' then T b' else 0 := by
  let r : Fin 256 := ⟨b / 128, by omega⟩
  let c : Fin 128 := ⟨b % 128, Nat.mod_lt _ (by decide)⟩
  have eb : 128 * (b / 128) + b % 128 = b := Nat.div_add_mod b 128
  have hx : ∀ (r : Fin 256) (c : Fin 128), scanTot h (ix2 r c) = T (128 * r.val + c.val) := fun r c =>
    (tot_at h r c).trans (hT _ (by omega))
  rw [← flat_at (scanV h) (ix2 r c) b ((Shape.rowMajor_val_two (d := ![256, 128]) _).trans (by show b / 128 * 128 + b % 128 = b; omega)),
    scanV_eq, tail_at]
  simp only [hx]
  have s := sum_suffix T 256 128 (b / 128) (b % 128) r.isLt c.isLt
  rw [eb] at s
  refine Eq.trans ?_ s
  refine congrArg₂ (· + ·) ?_ (Fin.sum_univ_eq_sum_range (fun c' => if b % 128 < c' then T (128 * (b / 128) + c') else 0) 128)
  rw [Finset.sum_comm]
  refine Eq.trans ?_ (Fin.sum_univ_eq_sum_range (fun r' => if b / 128 < r' then ∑ c' ∈ Finset.range 128, T (128 * r' + c') else 0) 256)
  refine Finset.sum_congr rfl fun k _ => ?_
  by_cases hk : b / 128 < k.val
  · rw [if_pos hk]
    refine Eq.trans (Finset.sum_congr rfl fun c' _ => if_pos hk) (Fin.sum_univ_eq_sum_range (fun c' => T (128 * k.val + c')) 128)
  · rw [if_neg hk]
    exact Finset.sum_eq_zero fun c' _ => if_neg hk

end Cert.Proof.KI

end
-- ==== Proof.IReads.lean ====
/-
  The arrays between the kernels, from the arguments: each host operation's result read back.
-/
module

public import proofs.«01_k».proof.Proof.IFrame

@[expose] public section

noncomputable section

namespace Cert.Proof.KI

open Cert.KernelIdeal Cert.KernelIdeal.Gen

open Idealize.ShloMosaic
open Idealize.ShloMosaic.SparseCore (S V T)

variable {F : FTy → Type} [FloatOps F]

variable (m : (ℓ : Loc nD τ sig) → Buf (Elt F) ℓ) (d : Dev nD)

/-- The arguments. -/
abbrev A0 : Vec F S1000000 .f32 := m (d, rf main_arg0)
abbrev A1 : Vec F S1000000 .f32 := m (d, rf main_arg1)
abbrev A2 : Vec F S1000000 .i32 := m (d, rf main_arg2)

/-- The padded log risks, -/
abbrev padLr : Vec F S1048576 .f32 := pad S1048576 ![0] ![48576] ![0] (A0 m d) (constant S_ .f32 0xC2C80000#32) pads_S1000000_S1048576_0485760 h_S_
/-- the padded durations, -/
abbrev padDu : Vec F S1048576 .f32 := pad S1048576 ![0] ![48576] ![0] (A1 m d) (constant S_ .f32 0x00000000#32) pads_S1000000_S1048576_0485760 h_S_
/-- and the padded events, converted. -/
abbrev padEv : Vec F S1048576 .f32 := sitofp .f32 (pad S1048576 ![0] ![48576] ![0] (A2 m d) (constantI S_ 32 0#32) pads_S1000000_S1048576_0485760 h_S_)

theorem VA_v0 : VA m d (rf main_v0) = padLr m d := by
  unfold VA
  rw [HloOp.result_of_not_mem _ _ (show rf main_v0 ∉ ({rf main_v3} : Finset (DevRef τ sig)) by decide)]
  rw [HloOp.result_of_not_mem _ _ (show rf main_v0 ∉ ({rf main_v2} : Finset (DevRef τ sig)) by decide)]
  rw [HloOp.result_of_not_mem _ _ (show rf main_v0 ∉ ({rf main_call2_v0} : Finset (DevRef τ sig)) by decide)]
  rw [HloOp.result_of_not_mem _ _ (show rf main_v0 ∉ ({rf main_c} : Finset (DevRef τ sig)) by decide)]
  rw [HloOp.result_of_not_mem _ _ (show rf main_v0 ∉ ({rf main_v1} : Finset (DevRef τ sig)) by decide)]
  rw [HloOp.result_of_not_mem _ _ (show rf main_v0 ∉ ({rf main_call1_v0} : Finset (DevRef τ sig)) by decide)]
  rw [HloOp.result_of_not_mem _ _ (show rf main_v0 ∉ ({rf main_cst_0} : Finset (DevRef τ sig)) by decide)]
  rfl

theorem VA_v1 : VA m d (rf main_v1) = padDu m d := by
  unfold VA
  rw [HloOp.result_of_not_mem _ _ (show rf main_v1 ∉ ({rf main_v3} : Finset (DevRef τ sig)) by decide)]
  rw [HloOp.result_of_not_mem _ _ (show rf main_v1 ∉ ({rf main_v2} : Finset (DevRef τ sig)) by decide)]
  rw [HloOp.result_of_not_mem _ _ (show rf main_v1 ∉ ({rf main_call2_v0} : Finset (DevRef τ sig)) by decide)]
  rw [HloOp.result_of_not_mem _ _ (show rf main_v1 ∉ ({rf main_c} : Finset (DevRef τ sig)) by decide)]
  rfl

theorem VA_v3 : VA m d (rf main_v3) = padEv m d := by
  unfold VA
  rfl

/-- The suffix sums that the gather reads, reshaped. -/
abbrev sufV : Vec F S32768 .f32 :=
  shapeCast S32768 (scanV (shapeCast S8192x128 (hist (padLr m d) (padDu m d)) shapeCasts_S32x32768_S8192x128)) shapeCasts_S256x128_S32768

theorem VE_v7 : VE m d (rf main_v7) = sufV m d := by
  have e5 : (VC m d (rf main_v5) : Vec F S8192x128 .f32) = shapeCast S8192x128 (VB m d (rf main_v4) : Vec F S32x32768 .f32) shapeCasts_S32x32768_S8192x128 := rfl
  have e4 : (VB m d (rf main_v4) : Vec F S32x32768 .f32) = hist (padLr m d) (padDu m d) := by
    unfold VB
    rw [Function.update_self, VA_v0, VA_v1]
  have e6 : (VD m d (rf main_v6) : Vec F S256x128 .f32) = scanV (VC m d (rf main_v5) : Vec F S8192x128 .f32) := by
    unfold VD outV1
    rw [Function.update_self]
  have e7 : (VE m d (rf main_v7) : Vec F S32768 .f32) = shapeCast S32768 (VD m d (rf main_v6) : Vec F S256x128 .f32) shapeCasts_S256x128_S32768 := rfl
  rw [e7, e6, e5, e4]

/-- What the kernels in between do not write is as it was after the padding. -/
theorem VF_of_ne (b : DevRef τ sig) (h : b ∉ ({rf main_v4, rf main_v5, rf main_v6, rf main_v7, rf main_v8} : Finset (DevRef τ sig))) :
    VF m d b = VA m d b := by
  simp only [Finset.mem_insert, Finset.mem_singleton, not_or] at h
  obtain ⟨h4, h5, h6, h7, h8⟩ := h
  unfold VF VE VD VC VB outV1
  rw [Function.update_of_ne h8]
  rw [HloOp.result_of_not_mem _ _ (show b ∉ ({rf main_v7} : Finset (DevRef τ sig)) from by simpa using h7)]
  rw [Function.update_of_ne h6]
  rw [HloOp.result_of_not_mem _ _ (show b ∉ ({rf main_v5} : Finset (DevRef τ sig)) from by simpa using h5)]
  rw [Function.update_of_ne h4]

/-- The three arrays the last kernel reads. -/
theorem VG_v9 : VG m d (rf main_v9) = shapeCast S8192x128 (padLr m d) shapeCasts_S1048576_S8192x128 := by
  have e : (VG m d (rf main_v9) : Vec F S8192x128 .f32) = shapeCast S8192x128 (VF m d (rf main_v0) : Vec F S1048576 .f32) shapeCasts_S1048576_S8192x128 := by
    unfold VG
    rw [HloOp.result_of_not_mem _ _ (show rf main_v9 ∉ ({rf main_v11} : Finset (DevRef τ sig)) by decide)]
    rw [HloOp.result_of_not_mem _ _ (show rf main_v9 ∉ ({rf main_v10} : Finset (DevRef τ sig)) by decide)]
    rfl
  exact e.trans (by rw [VF_of_ne m d _ (by decide), VA_v0])

theorem VG_v10 : VG m d (rf main_v10) = shapeCast S8192x128 (padEv m d) shapeCasts_S1048576_S8192x128 := by
  have e : (VG m d (rf main_v10) : Vec F S8192x128 .f32) = shapeCast S8192x128 (oV9.result (VF m d) (rf main_v3) : Vec F S1048576 .f32) shapeCasts_S1048576_S8192x128 := by
    unfold VG
    rw [HloOp.result_of_not_mem _ _ (show rf main_v10 ∉ ({rf main_v11} : Finset (DevRef τ sig)) by decide)]
    rfl
  refine e.trans ?_
  rw [HloOp.result_of_not_mem _ _ (show rf main_v3 ∉ ({rf main_v9} : Finset (DevRef τ sig)) by decide), VF_of_ne m d _ (by decide), VA_v3]

theorem VG_v11 : VG m d (rf main_v11) = shapeCast S8192x128 (gat (sufV m d) (padDu m d)) shapeCasts_S1048576_S8192x128 := by
  have e : (VG m d (rf main_v11) : Vec F S8192x128 .f32) = shapeCast S8192x128 (oV10.result (oV9.result (VF m d)) (rf main_v8) : Vec F S1048576 .f32) shapeCasts_S1048576_S8192x128 := by
    unfold VG
    rfl
  have e8 : (VF m d (rf main_v8) : Vec F S1048576 .f32) = gat (sufV m d) (padDu m d) := by
    unfold VF
    rw [Function.update_self, VE_v7, VA_v1]
  refine e.trans ?_
  rw [HloOp.result_of_not_mem _ _ (show rf main_v8 ∉ ({rf main_v10} : Finset (DevRef τ sig)) by decide),
    HloOp.result_of_not_mem _ _ (show rf main_v8 ∉ ({rf main_v9} : Finset (DevRef τ sig)) by decide), e8]

/-- The result. -/
theorem VI_v13 : VI m d (rf main_v13) = shapeCast S_ (finalV (shapeCast S8192x128 (padLr m d) shapeCasts_S1048576_S8192x128)
    (shapeCast S8192x128 (padEv m d) shapeCasts_S1048576_S8192x128)
    (shapeCast S8192x128 (gat (sufV m d) (padDu m d)) shapeCasts_S1048576_S8192x128)) shapeCasts_S1x1_S_ := by
  have e : (VI m d (rf main_v13) : Vec F S_ .f32) = shapeCast S_ (VH m d (rf main_v12) : Vec F S1x1 .f32) shapeCasts_S1x1_S_ := rfl
  have e12 : (VH m d (rf main_v12) : Vec F S1x1 .f32)
      = finalV (VG m d (rf main_v9) : Vec F S8192x128 .f32) (VG m d (rf main_v10) : Vec F S8192x128 .f32) (VG m d (rf main_v11) : Vec F S8192x128 .f32) := by
    unfold VH outV3
    rw [Function.update_self]
  rw [e, e12, VG_v9, VG_v10, VG_v11]

end Cert.Proof.KI

end
-- ==== Proof.IFinalSum.lean ====
/-
  The kernel's result over the extended reals: the sums it ends with, over the entries that are not padding.
-/
module

public import proofs.«01_k».proof.Proof.IScanSum
public import proofs.«01_k».proof.Proof.IReads

@[expose] public section

noncomputable section

namespace Cert.Proof.KI

open Cert.KernelIdeal Cert.KernelIdeal.Gen

open Idealize.ShloMosaic
open Idealize.ShloMosaic.ValueIdx
open scoped BigOperators

/-- A subject's term, from the log risk, the event mark and the weight at risk above the subject. -/
def term (l e g : EReal) : EReal := if 0 < e then (l - Ideal.log (Ideal.exp l + g)) * e else 0

/-- A block's entries, by row-major position. -/
theorem flat_blk8 (X : Vec Ideal S8192x128 .f32) (t n : ℕ) (ht : t < 8) (hn : n < 131072) :
    flat (blk8 X t) n = flat X (131072 * t + n) := by
  have e : ∀ j : S1024x128.Idx, blk8 X t j = flat X (131072 * t + (S1024x128.rowMajor j).val) := by
    intro j
    have h0 : (j 0).val < 1024 := (j 0).isLt
    refine flat_at X _ _ ((Shape.rowMajor_val_two (d := ![8192, 128]) _).trans ?_)
    rw [Shape.rowMajor_val_two (d := ![1024, 128]) j]
    show (t * 1024 + (j 0).val) % 8192 * 128 + (j 1).val = 131072 * t + ((j 0).val * 128 + (j 1).val)
    omega
  have hs : n < S1024x128.numel := hn
  unfold flat
  rw [dif_pos hs, e, Equiv.apply_symm_apply]
  rfl

/-- The sum over a block of 1024 rows, reshaped and reduced as the kernel does. -/
theorem block_sum (v : FVec Ideal S1024x128 .f32) :
    extractAt ![0, 0, 0] (shapeCast S1x1x1 (multiReduction .add [1, 2] S1 (shapeCast S1x1024x128 v shapeCasts_S1024x128_S1x1024x128)
      0x00000000#32 reduces_S1x1024x128_S1 (.inl rfl) rfl) shapeCasts_S1_S1x1x1) inpos_S1x1x1_p0_0_0
      = ∑ n ∈ Finset.range 131072, flat v n := by
  refine (Ideal.multiReduction_add_total _ _ reduces_S1x1024x128_S1 (fun b => ?_) (.inl rfl) rfl _).trans ?_
  · obtain rfl : b = 0 := Subsingleton.elim _ _
    rfl
  · rw [sum_flat, flat_cast]
    rfl

/-- The terms' running sum after `N` blocks. -/
theorem accS_sum (lr ev g : Vec Ideal S8192x128 .f32) (N : ℕ) (hN : N ≤ 8) :
    accS lr ev g N = ∑ n ∈ Finset.range (131072 * N), term (flat lr n) (flat ev n) (flat g n) := by
  induction N with
  | zero => exact Ideal.ofBits_zero_f32
  | succ N ih =>
    let v : FVec Ideal S1024x128 .f32 := fun j => term (blk8 lr N j) (blk8 ev N j) (blk8 g N j)
    have e : accS lr ev g (N + 1) = accS lr ev g N + ∑ n ∈ Finset.range 131072, flat v n := by
      rw [← block_sum v]
      refine congrArg (accS lr ev g N + ·) ?_
      have hv : ∀ w : FVec Ideal S1024x128 .f32, w = v →
        extractAt ![0, 0, 0] (shapeCast S1x1x1 (multiReduction .add [1, 2] S1 (shapeCast S1x1024x128 w shapeCasts_S1024x128_S1x1024x128)
          0x00000000#32 reduces_S1x1024x128_S1 (.inl rfl) rfl) shapeCasts_S1_S1x1x1) inpos_S1x1x1_p0_0_0
        = extractAt ![0, 0, 0] (shapeCast S1x1x1 (multiReduction .add [1, 2] S1 (shapeCast S1x1024x128 v shapeCasts_S1024x128_S1x1024x128)
          0x00000000#32 reduces_S1x1024x128_S1 (.inl rfl) rfl) shapeCasts_S1_S1x1x1) inpos_S1x1x1_p0_0_0 := fun w h => by rw [h]
      refine hv _ ?_
      unfold k3_pay2
      simp only [cast_same]
      funext j
      have hz : (Scalar.ofBits .f32 0x00000000#32 : Ideal .f32) = 0 := Ideal.ofBits_zero_f32
      show (if BitVec.ofBool (decide ((Scalar.ofBits .f32 0x00000000#32 : Ideal .f32) < blk8 ev N j)) = 1
        then (blk8 lr N j - Ideal.log (Ideal.exp (blk8 lr N j) + blk8 g N j)) * blk8 ev N j else (Scalar.ofBits .f32 0x00000000#32 : Ideal .f32)) = term _ _ _
      rw [hz]
      unfold term
      by_cases h : 0 < blk8 ev N j
      · rw [if_pos h, decide_eq_true h]; rfl
      · rw [if_neg h, decide_eq_false h]; rfl
    rw [e, ih (by omega), Nat.mul_succ 131072 N, Finset.sum_range_add _ (131072 * N)]
    refine congrArg (_ + ·) (Finset.sum_congr rfl fun n hn => ?_)
    have hn' : n < 131072 := Finset.mem_range.1 hn
    rw [← flat_blk8 lr N n (by omega) hn', ← flat_blk8 ev N n (by omega) hn', ← flat_blk8 g N n (by omega) hn']
    have hs : n < S1024x128.numel := hn'
    unfold flat
    rw [dif_pos hs, dif_pos hs, dif_pos hs, dif_pos hs]

/-- The event marks' running sum after `N` blocks. -/
theorem accE_sum (ev : Vec Ideal S8192x128 .f32) (N : ℕ) (hN : N ≤ 8) :
    accE ev N = ∑ n ∈ Finset.range (131072 * N), flat ev n := by
  induction N with
  | zero => exact Ideal.ofBits_zero_f32
  | succ N ih =>
    have e : accE ev (N + 1) = accE ev N + ∑ n ∈ Finset.range 131072, flat (blk8 ev N) n := by
      rw [← block_sum (blk8 ev N)]
      refine congrArg (accE ev N + ·) ?_
      unfold k3_pay2
      simp only [cast_same]
    rw [e, ih (by omega), Nat.mul_succ 131072 N, Finset.sum_range_add _ (131072 * N)]
    exact congrArg (_ + ·) (Finset.sum_congr rfl fun n hn => flat_blk8 ev N n (by omega) (Finset.mem_range.1 hn))

end Cert.Proof.KI

end
-- ==== Proof.IPad.lean ====
/-
  The padded arrays and the risk sums: what they hold over the extended reals, by position.
-/
module

public import proofs.«01_k».proof.Proof.IFinalSum

@[expose] public section

noncomputable section

namespace Cert.Proof.KI

open Cert.KernelIdeal Cert.KernelIdeal.Gen

open Idealize.ShloMosaic
open scoped BigOperators

/-- A padded array holds the array's entry at a position below a million, and the padding value at a later one. -/
theorem pad_at {α : Type} (x : S1000000.Idx → α) (v : S_.Idx → α) (n : ℕ) (hn : n < 1048576) :
    pad S1048576 ![0] ![48576] ![0] x v pads_S1000000_S1048576_0485760 h_S_ (ixN n)
      = if h : n < 1000000 then x (Shape.ofLane (d := ![1000000]) ⟨n, h⟩) else v (Shape.Idx.first h_S_) := by
  have e : n % 1048576 = n := Nat.mod_eq_of_lt hn
  unfold pad
  by_cases h : n < 1000000
  · have hin : ∀ a : Fin 1, ![0] a ≤ (ixN n a).val ∧ ((ixN n a).val - ![0] a) % (![0] a + 1) = 0
        ∧ ((ixN n a).val - ![0] a) / (![0] a + 1) < S1000000.size a := by
      intro a
      obtain rfl : a = 0 := Subsingleton.elim _ _
      show 0 ≤ n % 1048576 ∧ (n % 1048576 - 0) % 1 = 0 ∧ (n % 1048576 - 0) / 1 < 1000000
      omega
    refine (dif_pos hin).trans ?_
    rw [dif_pos h]
    refine congrArg x (funext fun a => ?_)
    obtain rfl : a = 0 := Subsingleton.elim _ _
    refine Fin.ext ?_
    show (n % 1048576 - 0) / 1 = n
    omega
  · rw [dif_neg h]
    refine dif_neg fun q => ?_
    have q0 : (n % 1048576 - 0) / 1 < 1000000 := (q 0).2.2
    omega

theorem flat_pad_lt (x : Vec Ideal S1000000 .f32) (v : Vec Ideal S_ .f32) (n : ℕ) (h : n < 1000000) :
    flat (pad S1048576 ![0] ![48576] ![0] x v pads_S1000000_S1048576_0485760 h_S_) n = flat x n := by
  rw [← at_ixN _ n (by omega), pad_at x v n (by omega), dif_pos h]
  exact flat_at x _ n (Shape.rowMajor_val_one (d := ![1000000]) _)

theorem flat_pad_ge (x : Vec Ideal S1000000 .f32) (v : Vec Ideal S_ .f32) (n : ℕ) (hn : n < 1048576) (h : 1000000 ≤ n) :
    flat (pad S1048576 ![0] ![48576] ![0] x v pads_S1000000_S1048576_0485760 h_S_) n = v (Shape.Idx.first h_S_) := by
  rw [← at_ixN _ n hn, pad_at x v n hn, dif_neg (by omega)]

/-- Integer marks, as extended reals. -/
def marks (x : IVec S1000000 32) : S1000000.Idx → EReal := fun i => (((x i).toInt : ℝ) : EReal)

theorem flat_marks_lt (x : IVec S1000000 32) (n : ℕ) (h : n < 1000000) :
    flat (sitofp (F := Ideal) .f32 (pad S1048576 ![0] ![48576] ![0] x (constantI S_ 32 0#32) pads_S1000000_S1048576_0485760 h_S_)) n
      = flat (marks x) n := by
  rw [← at_ixN _ n (by omega)]
  refine Eq.trans ?_ (flat_at (marks x) (Shape.ofLane (d := ![1000000]) ⟨n, h⟩) n (Shape.rowMajor_val_one (d := ![1000000]) _))
  show (((pad S1048576 ![0] ![48576] ![0] x (constantI S_ 32 0#32) pads_S1000000_S1048576_0485760 h_S_ (ixN n)).toInt : ℝ) : EReal) = _
  rw [pad_at x _ n (by omega), dif_pos h]
  rfl

theorem flat_marks_ge (x : IVec S1000000 32) (n : ℕ) (hn : n < 1048576) (h : 1000000 ≤ n) :
    flat (sitofp (F := Ideal) .f32 (pad S1048576 ![0] ![48576] ![0] x (constantI S_ 32 0#32) pads_S1000000_S1048576_0485760 h_S_)) n = 0 := by
  rw [← at_ixN _ n hn]
  show (((pad S1048576 ![0] ![48576] ![0] x (constantI S_ 32 0#32) pads_S1000000_S1048576_0485760 h_S_ (ixN n)).toInt : ℝ) : EReal) = _
  rw [pad_at x _ n hn, dif_neg (by omega)]
  show (((0#32 : BitVec 32).toInt : ℝ) : EReal) = 0
  simp

/-- A bucket is the product with 32768, truncated and clipped. -/
theorem bkt_eq (x : EReal) : bkt x = (IntOp.minsi 32767#32 (IntOp.maxsi 0#32 (Ideal.fptosi 32 (x * Ideal.ofBits .f32 0x47000000#32)))).toNat := rfl

theorem bkt_zero : bkt 0 = 0 := by
  rw [bkt_eq, zero_mul]
  have e : Ideal.fptosi 32 0 = 0#32 := by
    show BitVec.ofInt 32 (max (-(2 ^ (32 - 1) : ℕ) : ℤ) (min ((2 ^ (32 - 1) : ℕ) - 1) (if (0 : ℝ) ≤ 0 then ⌊(0 : ℝ)⌋ else ⌈(0 : ℝ)⌉))) = 0#32
    simp
  rw [e]
  decide

/-- The sum of the weights of the first `N` entries whose bucket is above `b`. -/
def above (lr du : ℕ → EReal) (N b : ℕ) : EReal := ∑ n ∈ Finset.range N, if b < bkt (du n) then Ideal.exp (lr n) else 0

/-- The gathered suffix sums: at each position the weights of the entries in buckets above its own. -/
theorem flat_gat (lr du : Vec Ideal S1048576 .f32) (n : ℕ) (hn : n < 1048576) :
    flat (gat (shapeCast S32768 (scanV (shapeCast S8192x128 (hist lr du) shapeCasts_S32x32768_S8192x128)) shapeCasts_S256x128_S32768) du) n
      = above (flat lr) (flat du) 1048576 (bkt (flat du n)) := by
  rw [← at_ixN _ n hn]
  show shapeCast S32768 (scanV (shapeCast S8192x128 (hist lr du) shapeCasts_S32x32768_S8192x128)) shapeCasts_S256x128_S32768
    (bucketIx (F := Ideal) (du (ixN n))) = _
  refine (flat_at _ _ (bkt (du (ixN n))) (Shape.rowMajor_val_one (d := ![32768]) _)).trans ?_
  rw [flat_cast, at_ixN du n hn,
    scan_flat _ (total lr du) (fun b hb => by rw [flat_cast]; exact hist_total lr du b hb) _ (bkt_lt _)]
  exact sum_above (fun k => bkt (flat du k)) (fun k => Ideal.exp (flat lr k)) 1048576 32768 _ fun k _ => bkt_lt _

end Cert.Proof.KI

end
-- ==== Proof.IValue.lean ====
/-
  The kernel's result over the extended reals, from the arguments.
-/
module

public import proofs.«01_k».proof.Proof.IPad

@[expose] public section

noncomputable section

namespace Cert.Proof.KI

open Cert.KernelIdeal Cert.KernelIdeal.Gen

open Idealize.ShloMosaic
open scoped BigOperators

/-- The weights above a bucket, of the padded arrays: the padding adds nothing, its bucket being the lowest. -/
theorem above_pad (a0 a1 : Vec Ideal S1000000 .f32) (v : Vec Ideal S_ .f32) (b : ℕ) :
    above (flat (pad S1048576 ![0] ![48576] ![0] a0 v pads_S1000000_S1048576_0485760 h_S_))
      (flat (pad S1048576 ![0] ![48576] ![0] a1 (constant (F := Ideal) S_ .f32 0x00000000#32) pads_S1000000_S1048576_0485760 h_S_)) 1048576 b
      = above (flat a0) (flat a1) 1000000 b := by
  unfold above
  rw [sum_cut _ 1000000 1048576 (by omega) fun n h hn => ?_]
  · refine Finset.sum_congr rfl fun n hn => ?_
    have hn' : n < 1000000 := Finset.mem_range.1 hn
    rw [flat_pad_lt a0 _ n hn', flat_pad_lt a1 _ n hn']
  · rw [flat_pad_ge a1 _ n hn h]
    have e : (constant (F := Ideal) S_ .f32 0x00000000#32) (Shape.Idx.first h_S_) = 0 := Ideal.ofBits_zero_f32
    rw [e, bkt_zero, if_neg (by omega)]

/-- The last step: minus the sum, over the number of events or one. -/
theorem last_eq (S E : Ideal .f32) : k3_pay1 (F := Ideal) S E = Ideal.div (Ideal.ofBits .f32 0x00000000#32 - S) (max E (Ideal.ofBits .f32 0x3F800000#32)) := rfl

/-- The kernel's result: minus the sum of the subjects' terms, over the number of events or one. -/
theorem final_value (a0 a1 : Vec Ideal S1000000 .f32) (a2 : IVec S1000000 32) (lr du ev : Vec Ideal S1048576 .f32)
    (hlr : lr = pad S1048576 ![0] ![48576] ![0] a0 (constant (F := Ideal) S_ .f32 0xC2C80000#32) pads_S1000000_S1048576_0485760 h_S_)
    (hdu : du = pad S1048576 ![0] ![48576] ![0] a1 (constant (F := Ideal) S_ .f32 0x00000000#32) pads_S1000000_S1048576_0485760 h_S_)
    (hev : ev = sitofp (F := Ideal) .f32 (pad S1048576 ![0] ![48576] ![0] a2 (constantI S_ 32 0#32) pads_S1000000_S1048576_0485760 h_S_))
    (j : S1x1.Idx) :
    finalV (shapeCast S8192x128 lr shapeCasts_S1048576_S8192x128) (shapeCast S8192x128 ev shapeCasts_S1048576_S8192x128)
        (shapeCast S8192x128 (gat (shapeCast S32768 (scanV (shapeCast S8192x128 (hist lr du) shapeCasts_S32x32768_S8192x128))
          shapeCasts_S256x128_S32768) du) shapeCasts_S1048576_S8192x128) j
      = Ideal.div (0 - ∑ n ∈ Finset.range 1000000, term (flat a0 n) (flat (marks a2) n) (above (flat a0) (flat a1) 1000000 (bkt (flat a1 n))))
          (max (∑ n ∈ Finset.range 1000000, flat (marks a2) n) (Ideal.ofBits .f32 0x3F800000#32)) := by
  have hz : Ideal.ofBits .f32 0x00000000#32 = 0 := Ideal.ofBits_zero_f32
  refine (last_eq _ _).trans ?_
  rw [hz, accS_sum _ _ _ 8 (le_refl 8), accE_sum _ 8 (le_refl 8)]
  simp only [flat_cast]
  rw [show 131072 * 8 = 1048576 from rfl]
  have hev0 : ∀ n, 1000000 ≤ n → n < 1048576 → flat ev n = 0 := fun n h hn => by rw [hev]; exact flat_marks_ge a2 n hn h
  rw [sum_cut (flat ev) 1000000 1048576 (by omega) hev0,
    sum_cut (fun n => term (flat lr n) (flat ev n) _) 1000000 1048576 (by omega)
      fun n h hn => by
        show term _ _ _ = 0
        rw [hev0 n h hn]; exact if_neg (lt_irrefl 0)]
  have e1 : ∀ n ∈ Finset.range 1000000, flat ev n = flat (marks a2) n := fun n hn => by
    rw [hev]; exact flat_marks_lt a2 n (Finset.mem_range.1 hn)
  have e2 : ∀ n ∈ Finset.range 1000000,
      term (flat lr n) (flat ev n) (flat (gat (shapeCast S32768 (scanV (shapeCast S8192x128 (hist lr du) shapeCasts_S32x32768_S8192x128))
          shapeCasts_S256x128_S32768) du) n)
        = term (flat a0 n) (flat (marks a2) n) (above (flat a0) (flat a1) 1000000 (bkt (flat a1 n))) := fun n hn => by
    have hn' : n < 1000000 := Finset.mem_range.1 hn
    rw [e1 n hn, flat_gat lr du n (by omega), hlr, hdu, above_pad, flat_pad_lt a0 _ n hn', flat_pad_lt a1 _ n hn']
  rw [Finset.sum_congr rfl e1, Finset.sum_congr rfl e2]

end Cert.Proof.KI

end
-- ==== Proof.IRef.lean ====
/-
  The reference's result over the extended reals: its sums, by position.
-/
module

public import proofs.«01_k».proof.Proof.IPad
public import proofs.«01_k».proof.Proof.Gen.ReferenceIdeal
public import Idealize.ShloMosaic.Lib.WordCmp

@[expose] public section

noncomputable section

namespace Cert.Proof.Ref

open Cert.ReferenceIdeal Cert.ReferenceIdeal.Gen
open Cert.Proof.KI (flat flat_at sum_flat bkt bkt_lt above marks)

open Idealize.ShloMosaic
open scoped BigOperators

/-- An array laid along every row of the square. -/
abbrev rows {α : Type} (x : S1000000.Idx → α) : S1000000x1000000.Idx → α :=
  broadcastInDim S1000000x1000000 ![0, 1] bcast_S1x1000000_S1000000x1000000_0_1 (broadcastInDim S1x1000000 ![1] bcast_S1000000_S1x1000000_1 x)
/-- An array laid along every column of the square. -/
abbrev cols {α : Type} (x : S1000000.Idx → α) : S1000000x1000000.Idx → α :=
  broadcastInDim S1000000x1000000 ![0, 1] bcast_S1000000x1_S1000000x1000000_0_1 (broadcastInDim S1000000x1 ![0] bcast_S1000000_S1000000x1_0 x)

theorem big_ne_one : ¬ (1000000 = 1) := by decide

theorem rows_at {α : Type} (x : S1000000.Idx → α) (j : S1000000x1000000.Idx) : rows x j = x (Shape.ofLane (d := ![1000000]) (j 1)) := by
  refine congrArg x (funext fun a => ?_)
  obtain rfl : a = 0 := Subsingleton.elim (α := Fin 1) _ _
  refine (dif_neg big_ne_one).trans ?_
  rfl

theorem cols_at {α : Type} (x : S1000000.Idx → α) (j : S1000000x1000000.Idx) : cols x j = x (Shape.ofLane (d := ![1000000]) (j 0)) := by
  refine congrArg x (funext fun a => ?_)
  obtain rfl : a = 0 := Subsingleton.elim (α := Fin 1) _ _
  refine (dif_neg big_ne_one).trans ?_
  rfl

/-- The quantised durations. -/
abbrev quant (a1 : FVec Ideal S1000000 .f32) : IVec S1000000 32 :=
  minsi (broadcastInDim S1000000 ![] bcast_S_S1000000 (id (constantI S_ 32 32767#32)))
    (maxsi (broadcastInDim S1000000 ![] bcast_S_S1000000 (id (constantI S_ 32 0#32)))
      (fptosi 32 (mulf a1 (broadcastInDim S1000000 ![] bcast_S_S1000000 (constant S_ .f32 0x47000000#32)))))

theorem quant_at (a1 : FVec Ideal S1000000 .f32) (i : S1000000.Idx) : (quant a1 i).toNat = bkt (a1 i) := rfl

/-- The comparison of two quantised durations is that of their buckets. -/
theorem quant_gt (a1 : FVec Ideal S1000000 .f32) (i k : S1000000.Idx) :
    IntOp.cmpi .sgt (quant a1 k) (quant a1 i) = BitVec.ofBool (decide (bkt (a1 i) < bkt (a1 k))) := by
  have h : ∀ n, (quant a1 n).toNat < 2 ^ (32 - 1) := fun n => by
    rw [quant_at]; exact lt_trans (bkt_lt _) (by decide)
  rw [WordCmp.cmpi_sgt_of_lt (h k) (h i), quant_at, quant_at]

theorem reduces_square : S1000000x1000000.Reduces [1] S1000000 := by decide

/-- The weights at risk above each subject. -/
abbrev later (a0 a1 : FVec Ideal S1000000 .f32) : FVec Ideal S1000000 .f32 :=
  Host.reduceAdd (select (cmpi .sgt (rows (quant a1)) (cols (quant a1))) (rows (Host.exp a0))
    (broadcastInDim S1000000x1000000 ![] bcast_S_S1000000x1000000 (id (constant S_ .f32 0x00000000#32))))
    (constant S_ .f32 0x00000000#32) reducesTo_S1000000x1000000_S1000000_d1 h_S_

/-- One subject's weight against another: its exponential where its bucket is above. -/
theorem weight_at (a0 a1 : FVec Ideal S1000000 .f32) (j : S1000000x1000000.Idx) :
    select (cmpi .sgt (rows (quant a1)) (cols (quant a1))) (rows (Host.exp a0))
      (broadcastInDim S1000000x1000000 ![] bcast_S_S1000000x1000000 (id (constant (F := Ideal) S_ .f32 0x00000000#32))) j
      = if bkt (a1 (Shape.ofLane (d := ![1000000]) (j 0))) < bkt (a1 (Shape.ofLane (d := ![1000000]) (j 1)))
        then Ideal.exp (a0 (Shape.ofLane (d := ![1000000]) (j 1))) else 0 := by
  have hz : Ideal.ofBits .f32 0x00000000#32 = 0 := Ideal.ofBits_zero_f32
  show (if IntOp.cmpi .sgt (rows (quant a1) j) (cols (quant a1) j) = 1 then rows (Host.exp a0) j else Ideal.ofBits .f32 0x00000000#32) = _
  rw [rows_at, rows_at, cols_at, quant_gt, hz]
  by_cases h : bkt (a1 (Shape.ofLane (d := ![1000000]) (j 0))) < bkt (a1 (Shape.ofLane (d := ![1000000]) (j 1)))
  · rw [if_pos h, decide_eq_true h]; rfl
  · rw [if_neg h, decide_eq_false h]; rfl

theorem later_at (a0 a1 : FVec Ideal S1000000 .f32) (i : S1000000.Idx) :
    later a0 a1 i = above (flat a0) (flat a1) 1000000 (bkt (a1 i)) := by
  refine (Ideal.hostReduceAdd_single reducesTo_S1000000x1000000_S1000000_d1 reduces_square _ _ i).trans ?_
  have hz : Ideal.ofBits .f32 0x00000000#32 = 0 := Ideal.ofBits_zero_f32
  refine (congrArg (· + _) hz).trans ((zero_add _).trans ?_)
  unfold above
  refine Eq.trans ?_ (Fin.sum_univ_eq_sum_range (fun n => if bkt (a1 i) < bkt (flat a1 n) then Ideal.exp (flat a0 n) else 0) 1000000)
  refine Finset.sum_congr rfl fun k _ => ?_
  rw [weight_at]
  have e0 : Shape.ofLane (d := ![1000000]) (reduces_square.lift i k 0) = i := by
    funext a
    obtain rfl : a = 0 := Subsingleton.elim (α := Fin 1) _ _
    rfl
  have e1 : Shape.ofLane (d := ![1000000]) (reduces_square.lift i k 1) = Shape.ofLane (d := ![1000000]) k := by
    funext a
    obtain rfl : a = 0 := Subsingleton.elim (α := Fin 1) _ _
    rfl
  rw [e0, e1, flat_at a1 (Shape.ofLane (d := ![1000000]) k) k.val (Shape.rowMajor_val_one (d := ![1000000]) _),
    flat_at a0 (Shape.ofLane (d := ![1000000]) k) k.val (Shape.rowMajor_val_one (d := ![1000000]) _)]

/-- The reference's result. -/
abbrev result (a0 a1 : FVec Ideal S1000000 .f32) (a2 : IVec S1000000 32) : FVec Ideal S_ .f32 :=
  Host.divf (Host.negf (Host.reduceAdd (mulf (subf a0 (Host.log (addf (Host.exp a0) (later a0 a1)))) (sitofp .f32 a2))
      (constant S_ .f32 0x00000000#32) reducesTo_S1000000_S_d0 h_S_))
    (maximumf (Host.reduceAdd (sitofp .f32 a2) (constant S_ .f32 0x00000000#32) reducesTo_S1000000_S_d0 h_S_) (constant S_ .f32 0x3F800000#32))

/-- A sum of all entries, by position. -/
theorem total_at (x : FVec Ideal S1000000 .f32) (j : S_.Idx) :
    Host.reduceAdd x (constant S_ .f32 0x00000000#32) reducesTo_S1000000_S_d0 h_S_ j = ∑ n ∈ Finset.range 1000000, flat x n := by
  refine (Ideal.hostReduceAdd_total reducesTo_S1000000_S_d0 (fun b => b.elim0) x _ j).trans ?_
  have hz : Ideal.ofBits .f32 0x00000000#32 = 0 := Ideal.ofBits_zero_f32
  refine (congrArg (· + _) hz).trans ((zero_add _).trans ?_)
  exact sum_flat x

/-- The last steps at their one index. -/
theorem quotient_at (x y c : FVec Ideal S_ .f32) (j : S_.Idx) :
    Host.divf (Host.negf x) (maximumf y c) j = Ideal.div (-(x j : EReal)) (max (y j : EReal) (c j : EReal)) := rfl

/-- The reference's result: minus the sum of the subjects' terms, over the number of events or one. -/
theorem result_at (a0 a1 : FVec Ideal S1000000 .f32) (a2 : IVec S1000000 32) (j : S_.Idx) :
    result a0 a1 a2 j = Ideal.div
      (-(∑ n ∈ Finset.range 1000000,
        (flat a0 n - Ideal.log (Ideal.exp (flat a0 n) + above (flat a0) (flat a1) 1000000 (bkt (flat a1 n)))) * flat (marks a2) n))
      (max (∑ n ∈ Finset.range 1000000, flat (marks a2) n) (Ideal.ofBits .f32 0x3F800000#32)) := by
  refine (quotient_at _ _ _ j).trans ?_
  rw [total_at, total_at]
  have hm : (sitofp (F := Ideal) .f32 a2 : FVec Ideal S1000000 .f32) = marks a2 := rfl
  have hc : (constant (F := Ideal) S_ .f32 0x3F800000#32) j = Ideal.ofBits .f32 0x3F800000#32 := rfl
  have hs : ∀ n ∈ Finset.range 1000000, flat (mulf (F := Ideal) (φ := .f32) (subf a0 (Host.log (addf (Host.exp a0) (later a0 a1)))) (sitofp .f32 a2)) n
      = (flat a0 n - Ideal.log (Ideal.exp (flat a0 n) + above (flat a0) (flat a1) 1000000 (bkt (flat a1 n)))) * flat (marks a2) n := fun n hn => by
    let i : S1000000.Idx := Shape.ofLane (d := ![1000000]) ⟨n, Finset.mem_range.1 hn⟩
    have hi : (S1000000.rowMajor i).val = n := Shape.rowMajor_val_one (d := ![1000000]) _
    rw [← flat_at _ i n hi, ← flat_at a0 i n hi, ← flat_at a1 i n hi, ← flat_at (marks a2) i n hi, ← later_at]
    rfl
  rw [Finset.sum_congr rfl hs, hc, hm]

end Cert.Proof.Ref

end
-- ==== Proof.IEqual.lean ====
/-
  The kernel's result is the reference's, over the extended reals, where no event mark is negative.
-/
module

public import proofs.«01_k».proof.Defs
public import proofs.«01_k».proof.Proof.IValue
public import proofs.«01_k».proof.Proof.IRef
public import Idealize.ShloMosaic.Lib.ReduceAll

@[expose] public section

noncomputable section

namespace Cert.Proof.KI

open Cert.KernelIdeal Cert.KernelIdeal.Gen

open Idealize.ShloMosaic
open scoped BigOperators

/-- The predicate's side conditions. -/
theorem preFacts : Cert.Pre_counted_events.Facts where
  bcast_S_S1000000 := by decide
  reducesTo_S1000000_S_d0 := by decide
  h_S_ := by decide

instance : Subsingleton S_.Idx := ⟨fun _ _ => funext fun a => a.elim0⟩

/-- Where the predicate holds, every mark is at least zero. -/
theorem marks_nonneg [h : Cert.Pre_counted_events.Facts] (a0 a1 : FVec Ideal S1000000 .f32) (a2 : IVec S1000000 32)
    (hp : Cert.Pre_counted_events.fn (F := Ideal) a0 a1 a2 = fun _ => 1#1) (i : S1000000.Idx) : 0 ≤ (a2 i).toInt := by
  have e := Host.reduce_andi_all _ _ _ _ _ (congrFun hp (fun a => a.elim0)) i
  have e1 : BitVec.ofBool (decide ((0#32 : BitVec 32).toInt ≤ (a2 i).toInt)) = 1#1 := e
  by_contra hn
  have h0 : (0#32 : BitVec 32).toInt = 0 := by decide
  rw [h0, decide_eq_false hn] at e1
  exact absurd e1 (by decide)

theorem flat_marks_nonneg (a2 : IVec S1000000 32) (hp : ∀ i, 0 ≤ (a2 i).toInt) (n : ℕ) : 0 ≤ flat (marks a2) n := by
  unfold flat
  by_cases h : n < S1000000.numel
  · rw [dif_pos h]
    exact EReal.coe_nonneg.2 (Int.cast_nonneg (hp _))
  · rw [dif_neg h]

/-- A term under a mark that is not negative needs no test of the mark. -/
theorem term_of_nonneg (l e g : EReal) (he : 0 ≤ e) : term l e g = (l - Ideal.log (Ideal.exp l + g)) * e := by
  unfold term
  by_cases h : 0 < e
  · rw [if_pos h]
  · rw [if_neg h, le_antisymm (not_lt.1 h) he, mul_zero]

/-- An array of one value, reshaped, holds it everywhere. -/
theorem cast_of {s t : Shape} (x : s.Idx → EReal) (h : s.ShapeCasts t) (v : EReal) (hx : ∀ k, x k = v) : shapeCast t x h = fun _ => v :=
  funext fun _ => hx _

/-- The kernel's sums are the reference's. -/
theorem sums_eq (a0 a1 : Vec Ideal S1000000 .f32) (a2 : IVec S1000000 32) (hp : ∀ i, 0 ≤ (a2 i).toInt) (j : S_.Idx) :
    Ideal.div (0 - ∑ n ∈ Finset.range 1000000, term (flat a0 n) (flat (marks a2) n) (above (flat a0) (flat a1) 1000000 (bkt (flat a1 n))))
        (max (∑ n ∈ Finset.range 1000000, flat (marks a2) n) (Ideal.ofBits .f32 0x3F800000#32))
      = Ref.result a0 a1 a2 j := by
  rw [Ref.result_at, zero_sub, Finset.sum_congr rfl fun n _ => term_of_nonneg _ _ _ (flat_marks_nonneg a2 hp n)]

/-- The kernel's result is the reference's. -/
theorem result_eq (m : (ℓ : Loc nD τ sig) → Buf (Elt Ideal) ℓ) (c : Dev nD) (hp : ∀ i, 0 ≤ ((A2 m c : IVec S1000000 32) i).toInt) :
    (VI m c (rf main_v13) : Vec Ideal S_ .f32) = Ref.result (A0 m c) (A1 m c) (A2 m c) := by
  have e := cast_of _ shapeCasts_S1x1_S_ _ (final_value (A0 m c) (A1 m c) (A2 m c) (padLr m c) (padDu m c) (padEv m c) rfl rfl rfl)
  have e2 : (VI m c (rf main_v13) : Vec Ideal S_ .f32) = _ := (VI_v13 m c).trans e
  rw [e2]
  exact funext fun j => sums_eq _ _ _ hp j

end Cert.Proof.KI

end
-- ==== Proof.lean ====
/-
  The certificate: the frames of the kernel, of its idealization and of the reference; that the idealization changes
  nothing; and that the idealization and the reference compute the same over the extended reals.
-/
module

public import proofs.«01_k».proof.Defs
public import proofs.«01_k».proof.Proof.IFrame
public import proofs.«01_k».proof.Proof.BFrame
public import proofs.«01_k».proof.Proof.IEqual
public import proofs.«01_k».proof.Proof.Gen.ReferenceIdeal.Run

@[expose] public section

noncomputable section

namespace Cert.Proof

open Idealize.ShloMosaic Idealize.SL.Sem

/-- The kernel runs, leaves its arguments and every semaphore as they were. -/
theorem frame_kernel : Cert.quiescent_Kernel := fun m ρ _ => KB.run_frame (F := Bits) m ρ

/-- Its idealization does too, -/
theorem frame_ideal : Cert.quiescent_KernelIdeal := fun m ρ _ => KI.run_frame (F := Ideal) m ρ

/-- whatever is asked of its arguments, -/
theorem frame_ideal_pre [Cert.Pre_counted_events.Facts] : Cert.quiescent_KernelIdeal_pre_counted_events :=
  fun m ρ _ => KI.run_frame (F := Ideal) m ρ

/-- and the reference, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- whatever is asked of its arguments. -/
theorem frame_reference_pre [Cert.Pre_counted_events.Facts] : Cert.quiescent_ReferenceIdeal_pre_counted_events :=
  fun m ρ _ => frame_reference m ρ trivial

/-- The idealization and the reference, from the same arguments with no negative event mark, end with the same result. -/
theorem same_result [Cert.Pre_counted_events.Facts] : Cert.algebraic_KernelIdeal_ReferenceIdeal_pre_counted_events := by
  intro m g m' g' hpre hargs
  refine ⟨fun c => KI.VI m c (KI.rf Cert.KernelIdeal.main_v13), KI.run_value (F := Ideal) m g, ?_⟩
  refine (θ_run Cert.ReferenceIdeal.defs _ _).mono (fun r h c => ⟨(h c).1.trans ?_, (h c).2⟩)
    (Cert.ReferenceIdeal.Value.run (F := Ideal) m' g')
  obtain ⟨h0, h1, h2⟩ := hargs c
  rw [h0, h1, h2]
  exact (KI.result_eq m c (KI.marks_nonneg _ _ _ (hpre c))).symm

theorem claim : Cert.Claim :=
  ⟨Cert.Kernel.Gen.facts, Cert.KernelIdeal.Gen.facts, Cert.ReferenceIdeal.Gen.facts, KI.preFacts, frame_kernel, frame_ideal,
    @frame_ideal_pre KI.preFacts, frame_reference, @frame_reference_pre KI.preFacts, trivial, @same_result KI.preFacts⟩

end Cert.Proof

end
